-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S320000 : Shape := ⟨1, ![320000]⟩
abbrev S10000x64 : Shape := ⟨2, ![10000, 64]⟩
abbrev S128x64 : Shape := ⟨2, ![128, 64]⟩
abbrev S64x64 : Shape := ⟨2, ![64, 64]⟩
abbrev S64 : Shape := ⟨1, ![64]⟩
abbrev S1x64 : Shape := ⟨2, ![1, 64]⟩
abbrev S64x1 : Shape := ⟨2, ![64, 1]⟩
abbrev S1 : Shape := ⟨1, ![1]⟩
abbrev S128x256 : Shape := ⟨2, ![128, 256]⟩
abbrev S64x256 : Shape := ⟨2, ![64, 256]⟩
abbrev S1x256 : Shape := ⟨2, ![1, 256]⟩
abbrev S_ : Shape := ⟨0, ![]⟩
abbrev S6x256 : Shape := ⟨2, ![6, 256]⟩
abbrev S200x256 : Shape := ⟨2, ![200, 256]⟩
abbrev S1x1 : Shape := ⟨2, ![1, 1]⟩
abbrev S10000x1 : Shape := ⟨2, ![10000, 1]⟩
abbrev S3x2000x128 : Shape := ⟨3, ![3, 2000, 128]⟩
abbrev S3x2000x64 : Shape := ⟨3, ![3, 2000, 64]⟩
abbrev S3x2000x1 : Shape := ⟨3, ![3, 2000, 1]⟩
abbrev S3 : Shape := ⟨1, ![3]⟩
abbrev S1x2000x128 : Shape := ⟨3, ![1, 2000, 128]⟩
abbrev S2000x128 : Shape := ⟨2, ![2000, 128]⟩
abbrev S1x2000x64 : Shape := ⟨3, ![1, 2000, 64]⟩
abbrev S2000x64 : Shape := ⟨2, ![2000, 64]⟩
abbrev S2000x256 : Shape := ⟨2, ![2000, 256]⟩
abbrev S2000 : Shape := ⟨1, ![2000]⟩
abbrev S2000x1 : Shape := ⟨2, ![2000, 1]⟩
abbrev S1x2000x1 : Shape := ⟨3, ![1, 2000, 1]⟩

abbrev nBuf : Space → Nat
  | .hbm => 46
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S10000x64, .f32⟩
  | .hbm, ⟨4, _⟩ => ⟨S10000x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S64x1, .f32⟩
  | .hbm, ⟨25, _⟩ => ⟨S1, .f32⟩
  | .hbm, ⟨26, _⟩ => ⟨S128x256, .f32⟩
  | .hbm, ⟨27, _⟩ => ⟨S64x256, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x256, .f32⟩
  | .hbm, ⟨37, _⟩ => ⟨S1x64, .f32⟩
  | .hbm, ⟨38, _⟩ => ⟨S1x256, .f32⟩
  | .hbm, ⟨39, _⟩ => ⟨S_, .f32⟩
  | .hbm, ⟨40, _⟩ => ⟨S6x256, .f32⟩
  | .hbm, ⟨41, _⟩ => ⟨S200x256, .f32⟩
  | .hbm, ⟨42, _⟩ => ⟨S1x1, .f32⟩
  | .hbm, ⟨43, _⟩ => ⟨S10000x1, .f32⟩
  | .hbm, ⟨44, _⟩ => ⟨S10000x64, .f32⟩
  | .hbm, ⟨45, _⟩ => ⟨S10000x64, .f32⟩
  | .local _ .vmem, ⟨0, _⟩ => ⟨S200x256, .f32⟩
  | .local _ .vmem, ⟨1, _⟩ => ⟨S1x1, .f32⟩
  | .local _ .vmem, ⟨2, _⟩ => ⟨S3x2000x128, .f32⟩
  | .local _ .vmem, ⟨3, _⟩ => ⟨S3x2000x64, .f32⟩
  | .local _ .vmem, ⟨4, _⟩ => ⟨S3x2000x64, .f32⟩
  | .local _ .vmem, ⟨5, _⟩ => ⟨S3x2000x1, .f32⟩
  | .local _ .vmem, ⟨6, _⟩ => ⟨S3x2000x64, .f32⟩
  | .local _ .vmem, ⟨7, _⟩ => ⟨S3x2000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16_0 : Ref sig .tc := ⟨.hbm, 43, rfl⟩
abbrev main_v16_1 : Ref sig .tc := ⟨.hbm, 44, rfl⟩
abbrev main_v16_2 : Ref sig .tc := ⟨.hbm, 45, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S200x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S320000 : Shape := ⟨1, ![320000]⟩
abbrev S10000x64 : Shape := ⟨2, ![10000, 64]⟩
abbrev S128x64 : Shape := ⟨2, ![128, 64]⟩
abbrev S64x64 : Shape := ⟨2, ![64, 64]⟩
abbrev S64 : Shape := ⟨1, ![64]⟩
abbrev S1x64 : Shape := ⟨2, ![1, 64]⟩
abbrev S64x1 : Shape := ⟨2, ![64, 1]⟩
abbrev S1 : Shape := ⟨1, ![1]⟩
abbrev S_ : Shape := ⟨0, ![]⟩
abbrev S10000x1 : Shape := ⟨2, ![10000, 1]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S10000x64, .f32⟩
  | .hbm, ⟨4, _⟩ => ⟨S10000x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S64x1, .f32⟩
  | .hbm, ⟨25, _⟩ => ⟨S1, .f32⟩
  | .hbm, ⟨26, _⟩ => ⟨S10000x64, .f32⟩
  | .hbm, ⟨27, _⟩ => ⟨S10000x64, .f32⟩
  | .hbm, ⟨28, _⟩ => ⟨S1x64, .f32⟩
  | .hbm, ⟨29, _⟩ => ⟨S10000x64, .f32⟩
  | .hbm, ⟨30, _⟩ => ⟨S10000x64, .f32⟩
  | .hbm, ⟨31, _⟩ => ⟨S10000x64, .f32⟩
  | .hbm, ⟨32, _⟩ => ⟨S10000x64, .f32⟩
  | .hbm, ⟨33, _⟩ => ⟨S10000x64, .f32⟩
  | .hbm, ⟨34, _⟩ => ⟨S10000x64, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S10000x64, .f32⟩
  | .hbm, ⟨39, _⟩ => ⟨S_, .f32⟩
  | .hbm, ⟨40, _⟩ => ⟨S10000x64, .f32⟩
  | .hbm, ⟨41, _⟩ => ⟨S10000x64, .f32⟩
  | .hbm, ⟨42, _⟩ => ⟨S_, .f32⟩
  | .hbm, ⟨43, _⟩ => ⟨S10000x64, .f32⟩
  | .hbm, ⟨44, _⟩ => ⟨S10000x64, .f32⟩
  | .hbm, ⟨45, _⟩ => ⟨S10000x64, .f32⟩
  | .hbm, ⟨46, _⟩ => ⟨S10000x64, .f32⟩
  | .hbm, ⟨47, _⟩ => ⟨S1x64, .f32⟩
  | .hbm, ⟨48, _⟩ => ⟨S10000x64, .f32⟩
  | .hbm, ⟨49, _⟩ => ⟨S10000x64, .f32⟩
  | .hbm, ⟨50, _⟩ => ⟨S10000x64, .f32⟩
  | .hbm, ⟨51, _⟩ => ⟨S10000x64, .f32⟩
  | .hbm, ⟨52, _⟩ => ⟨S10000x64, .f32⟩
  | .hbm, ⟨53, _⟩ => ⟨S10000x64, .f32⟩
  | .hbm, ⟨54, _⟩ => ⟨S10000x64, .f32⟩
  | .hbm, ⟨55, _⟩ => ⟨S10000x64, .f32⟩
  | .hbm, ⟨56, _⟩ => ⟨S10000x64, .f32⟩
  | .hbm, ⟨57, _⟩ => ⟨S10000x64, .f32⟩
  | .hbm, ⟨58, _⟩ => ⟨S_, .f32⟩
  | .hbm, ⟨59, _⟩ => ⟨S10000x64, .f32⟩
  | .hbm, ⟨60, _⟩ => ⟨S10000x64, .f32⟩
  | .hbm, ⟨61, _⟩ => ⟨S_, .f32⟩
  | .hbm, ⟨62, _⟩ => ⟨S10000x64, .f32⟩
  | .hbm, ⟨63, _⟩ => ⟨S10000x64, .f32⟩
  | .hbm, ⟨64, _⟩ => ⟨S10000x64, .f32⟩
  | .hbm, ⟨65, _⟩ => ⟨S10000x64, .f32⟩
  | .hbm, ⟨66, _⟩ => ⟨S1x64, .f32⟩
  | .hbm, ⟨67, _⟩ => ⟨S10000x64, .f32⟩
  | .hbm, ⟨68, _⟩ => ⟨S10000x64, .f32⟩
  | .hbm, ⟨69, _⟩ => ⟨S10000x64, .f32⟩
  | .hbm, ⟨70, _⟩ => ⟨S10000x64, .f32⟩
  | .hbm, ⟨71, _⟩ => ⟨S10000x64, .f32⟩
  | .hbm, ⟨72, _⟩ => ⟨S10000x64, .f32⟩
  | .hbm, ⟨73, _⟩ => ⟨S10000x64, .f32⟩
  | .hbm, ⟨74, _⟩ => ⟨S10000x64, .f32⟩
  | .hbm, ⟨75, _⟩ => ⟨S10000x64, .f32⟩
  | .hbm, ⟨76, _⟩ => ⟨S10000x64, .f32⟩
  | .hbm, ⟨77, _⟩ => ⟨S10000x64, .f32⟩
  | .hbm, ⟨78, _⟩ => ⟨S1x64, .f32⟩
  | .hbm, ⟨79, _⟩ => ⟨S10000x64, .f32⟩
  | .hbm, ⟨80, _⟩ => ⟨S10000x64, .f32⟩
  | .hbm, ⟨81, _⟩ => ⟨S10000x64, .f32⟩
  | .hbm, ⟨82, _⟩ => ⟨S10000x64, .f32⟩
  | .hbm, ⟨83, _⟩ => ⟨S10000x64, .f32⟩
  | .hbm, ⟨84, _⟩ => ⟨S10000x64, .f32⟩
  | .hbm, ⟨85, _⟩ => ⟨S10000x64, .f32⟩
  | .hbm, ⟨86, _⟩ => ⟨S10000x64, .f32⟩
  | .hbm, ⟨87, _⟩ => ⟨S10000x64, .f32⟩
  | .hbm, ⟨88, _⟩ => ⟨S10000x64, .f32⟩
  | .hbm, ⟨89, _⟩ => ⟨S_, .f32⟩
  | .hbm, ⟨90, _⟩ => ⟨S10000x64, .f32⟩
  | .hbm, ⟨91, _⟩ => ⟨S10000x64, .f32⟩
  | .hbm, ⟨92, _⟩ => ⟨S_, .f32⟩
  | .hbm, ⟨93, _⟩ => ⟨S10000x64, .f32⟩
  | .hbm, ⟨94, _⟩ => ⟨S10000x64, .f32⟩
  | .hbm, ⟨95, _⟩ => ⟨S10000x64, .f32⟩
  | .hbm, ⟨96, _⟩ => ⟨S10000x64, .f32⟩
  | .hbm, ⟨97, _⟩ => ⟨S_, .f32⟩
  | .hbm, ⟨98, _⟩ => ⟨S10000x64, .f32⟩
  | .hbm, ⟨99, _⟩ => ⟨S10000x64, .f32⟩
  | .hbm, ⟨100, _⟩ => ⟨S10000x1, .f32⟩
  | .hbm, ⟨101, _⟩ => ⟨S1x1, .f32⟩
  | .hbm, ⟨102, _⟩ => ⟨S10000x1, .f32⟩
  | .hbm, ⟨103, _⟩ => ⟨S10000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_v14 : Ref sig .tc := ⟨.hbm, 41, rfl⟩
abbrev main_cst_0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_1 : Ref sig .tc := ⟨.hbm, 58, rfl⟩
abbrev main_v30 : Ref sig .tc := ⟨.hbm, 59, rfl⟩
abbrev main_v31 : Ref sig .tc := ⟨.hbm, 60, rfl⟩
abbrev main_cst_2 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_3 : Ref sig .tc := ⟨.hbm, 89, rfl⟩
abbrev main_v59 : Ref sig .tc := ⟨.hbm, 90, rfl⟩
abbrev main_v60 : Ref sig .tc := ⟨.hbm, 91, rfl⟩
abbrev main_cst_4 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call0_cst : Ref sig .tc := ⟨.hbm, 97, rfl⟩
abbrev main_call0_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]
-- ==== Proof.CellViews.lean ====
module

public import Idealize.ShloMosaic.Lib.Pipeline.FrameBody
public import Idealize.ShloMosaic.Lib.Pipeline.Value
public import Idealize.ShloMosaic.Lib.Ring
public import Idealize.ShloMosaic.Lib.ValueIdxCore
public import Idealize.ShloMosaic.Lib.Tactic

/-! # Blocks of rows and ring slots, as views

Facts about one array cut into five blocks of 2000 rows and one ring buffer cut into its slots, stated for any signature so
that every namespace of this problem reads them: what a slot's squeezed view holds after a store through the unsqueezed
one, what a load finds in a slot a transfer has filled, and the row arithmetic of the five blocks. -/

@[expose] public section

noncomputable section

namespace Cert.Cell

open Idealize.ShloMosaic

section Slots
variable {sig : RefSig} {κ : Kind} {sp : Space} {s s' : Shape} {e : EltTy} {Val : EltTy → Type}

/-- A store over a slot's rectangle, read back through the slot's squeezed view: the stored vector, reshaped. -/
theorem slot_store_read (M : Memref sig κ sp s e) (r : Rect s) (hr : ∀ a, r.stride a = 1) (h : r.shape.Squeezes s')
    (hc : r.shape.ShapeCasts s') (f : M.view.ty.Contents Val) (w : r.shape.Idx → Val e) :
    ((M.slice r hr).squeeze s' h).view.read Val (View.write Val (M.access r) f w Finset.univ) = shapeCast s' w hc := by
  show shapeCast s' ((M.access r).read Val (View.write Val (M.access r) f w Finset.univ)) hc = _
  rw [View.read_write_univ]

/-- The last of several whole writes is what a view reads. -/
theorem read_writes_whole_cons (v : View sig κ sp s e) (f : v.ty.Contents Val) (x : s.Idx → Val e) (l : List (View.Piece Val s e)) :
    v.read Val (v.writes Val f (⟨Rect.whole s, x⟩ :: l)) = x := by
  funext y
  have h := View.read_writes_cons_emb v f (Rect.whole s) x l y
  rwa [Rect.emb_whole_apply] at h

/-- A load of a slot's rectangle after a transfer has filled the slot (over earlier ones): the delivered block, reshaped. -/
theorem slot_load (M : Memref sig κ sp s e) (r : Rect s) (hr : ∀ a, r.stride a = 1) (h : r.shape.Squeezes s')
    (hc : s'.ShapeCasts r.shape) (hc' : r.shape.ShapeCasts s') (g : M.view.ty.Contents Val) (p : s'.Idx → Val e)
    (l : List (View.Piece Val s' e)) :
    M.view.readAt Val r.toLoadRect (((M.slice r hr).squeeze s' h).view.writes Val g (⟨Rect.whole s', p⟩ :: l))
      = shapeCast r.shape p hc := by
  have h1 : shapeCast s' (M.view.readAt Val r.toLoadRect (((M.slice r hr).squeeze s' h).view.writes Val g (⟨Rect.whole s', p⟩ :: l))) hc' = p :=
    read_writes_whole_cons ((M.slice r hr).squeeze s' h).view g p l
  exact (shapeCast_shapeCast _ hc' hc).symm.trans (congrArg (fun q => shapeCast r.shape q hc) h1)

end Slots

section Restate
variable {sig : RefSig} {κ : Kind} {sp : Space} {s : Shape} {e : EltTy} {Val : EltTy → Type}

/-- Two contents a view reads alike are alike on the view's elements. -/
theorem eqOn_of_read (v : View sig κ sp s e) (f g : v.ty.Contents Val) (h : v.read Val f = v.read Val g) :
    ∀ i ∈ v.set, f i = g i := by
  intro i hi
  obtain ⟨z, -, rfl⟩ := Finset.mem_map.mp hi
  have := congrFun h z
  exact (cast_bijective _).1 this

end Restate

/-! ## The five blocks of rows -/

section Rows
open Idealize.ShloMosaic.ValueIdx
variable {n : ℕ} {α : Type}

/-- An array of 10000 rows of `n` numbers. -/
abbrev Full (n : ℕ) : Shape := ⟨2, ![10000, n]⟩
/-- A block of 2000 rows of `n` numbers. -/
abbrev Blk (n : ℕ) : Shape := ⟨2, ![2000, n]⟩

/-- The block a row lies in. -/
def blkNo (i : (Full n).Idx) : Fin 5 :=
  ⟨(i 0).val / 2000, by have h := idx2_lt0 i; omega⟩
/-- A position inside its block. -/
def inBlk (i : (Full n).Idx) : (Blk n).Idx := ix2 ⟨(i 0).val % 2000, Nat.mod_lt _ (by omega)⟩ (i 1)
/-- A position of block `k`, in the whole array. -/
def atBlk (k : Fin 5) (z : (Blk n).Idx) : (Full n).Idx :=
  ix2 ⟨2000 * k.val + (z 0).val, by have h := idx2_lt0 z; have := k.isLt; omega⟩ (z 1)
/-- Block `k` of an array. -/
def blk (k : Fin 5) (f : (Full n).Idx → α) : (Blk n).Idx → α := fun z => f (atBlk k z)
/-- The array of five given blocks. -/
def glue (g : Fin 5 → (Blk n).Idx → α) : (Full n).Idx → α := fun i => g (blkNo i) (inBlk i)

theorem blkNo_atBlk (k : Fin 5) (z : (Blk n).Idx) : blkNo (atBlk k z) = k := by
  have h := idx2_lt0 z
  apply Fin.ext
  show (2000 * k.val + (z 0).val) / 2000 = k.val
  omega

theorem inBlk_atBlk (k : Fin 5) (z : (Blk n).Idx) : inBlk (atBlk k z) = z := by
  have h := idx2_lt0 z
  conv_rhs => rw [eq_ix2 z]
  unfold inBlk
  congr 1
  apply Fin.ext
  show (2000 * k.val + (z 0).val) % 2000 = (z 0).val
  omega

theorem atBlk_blkNo (i : (Full n).Idx) : atBlk (blkNo i) (inBlk i) = i := by
  conv_rhs => rw [eq_ix2 i]
  unfold atBlk
  congr 1
  apply Fin.ext
  show 2000 * ((i 0).val / 2000) + (i 0).val % 2000 = (i 0).val
  omega

theorem blk_glue (k : Fin 5) (g : Fin 5 → (Blk n).Idx → α) : blk k (glue g) = g k := by
  funext z; unfold blk glue; rw [blkNo_atBlk, inBlk_atBlk]

/-- The rectangle of 2000 rows at row `2000 * k` places a block's positions as `atBlk` does. -/
theorem emb_rows (k : Fin 5) (inb : ∀ a, (![2000 * k.val, 0] : Fin 2 → ℕ) a + (Blk n).size a ≤ (Full n).size a) (z : (Blk n).Idx) :
    (Rect.unit (s := Full n) ![2000 * k.val, 0] (Blk n).size inb).idx z = atBlk k z := by
  funext a
  apply Fin.ext
  match a with
  | ⟨0, _⟩ => show 2000 * k.val + 1 * (z 0).val = 2000 * k.val + (z 0).val; omega
  | ⟨1, _⟩ => show 0 + 1 * (z 1).val = (z 1).val; omega

/-- The first rows of the five blocks, and the three slots, are in range. -/
theorem row0 : 0 + 2000 ≤ 10000 := by decide
theorem row2000 : 2000 + 2000 ≤ 10000 := by decide
theorem row4000 : 4000 + 2000 ≤ 10000 := by decide
theorem row6000 : 6000 + 2000 ≤ 10000 := by decide
theorem row8000 : 8000 + 2000 ≤ 10000 := by decide
theorem slot0 : 0 + 1 ≤ 3 := by decide
theorem slot1 : 1 + 1 ≤ 3 := by decide
theorem slot2 : 2 + 1 ≤ 3 := by decide

theorem inb_at {o : ℕ} (h : o + 2000 ≤ 10000) : ∀ a, (![o, 0] : Fin 2 → ℕ) a + (Blk n).size a ≤ (Full n).size a := by
  intro a
  match a with
  | ⟨0, _⟩ => exact h
  | ⟨1, _⟩ => show 0 + n ≤ n; omega

theorem inb_rows (k : Fin 5) : ∀ a, (![2000 * k.val, 0] : Fin 2 → ℕ) a + (Blk n).size a ≤ (Full n).size a :=
  inb_at (by omega)

/-- The five blocks' positions. -/
def rowSet (n : ℕ) (k : Fin 5) : Finset (Full n).Idx :=
  (Rect.unit (s := Full n) ![2000 * k.val, 0] (Blk n).size (inb_rows k)).set

theorem rowSet_disjoint (k k' : Fin 5) (h : k ≠ k') : Disjoint (rowSet n k) (rowSet n k') :=
  Ring.lead_disjoint (s := Full n) 0 2000 (fun k : Fin 5 => ![2000 * k.val, 0]) (Blk n).size inb_rows (fun _ => rfl) rfl k k' h

theorem rowSet_cover : Finset.univ.biUnion (rowSet n) = Finset.univ :=
  Ring.lead_cover (s := Full n) 0 2000 (fun k : Fin 5 => ![2000 * k.val, 0]) (Blk n).size inb_rows (fun _ => rfl)
    (fun k a ha => by match a with | ⟨0, _⟩ => exact absurd rfl ha | ⟨1, _⟩ => rfl) rfl
    (fun a ha => by match a with | ⟨0, _⟩ => exact absurd rfl ha | ⟨1, _⟩ => rfl) rfl

/-- Sets covering a type, moved by an embedding that reaches everything, still cover. -/
theorem cover_map {ι A B : Type} [Fintype ι] [Fintype A] [Fintype B] [DecidableEq A] [DecidableEq B] {J : ι → Finset A} {e : A ↪ B}
    (hc : Finset.univ.biUnion J = Finset.univ) (he : Finset.univ.map e = Finset.univ) :
    Finset.univ.biUnion (fun k => (J k).map e) = Finset.univ := by
  ext y
  simp only [Finset.mem_biUnion, Finset.mem_univ, true_and, iff_true, Finset.mem_map]
  obtain ⟨x, -, rfl⟩ := Finset.mem_map.mp (he ▸ Finset.mem_univ y)
  obtain ⟨k, -, hk⟩ := Finset.mem_biUnion.mp (hc ▸ Finset.mem_univ x)
  exact ⟨k, x, hk, rfl⟩

/-- A ring of three slots of 2000 rows of `n` numbers, and one slot. -/
abbrev Three (n : ℕ) : Shape := ⟨3, ![3, 2000, n]⟩
abbrev One (n : ℕ) : Shape := ⟨3, ![1, 2000, n]⟩

theorem inb_slot_at {s : ℕ} (h : s + 1 ≤ 3) : ∀ a, (![s, 0, 0] : Fin 3 → ℕ) a + (One n).size a ≤ (Three n).size a := by
  intro a
  match a with
  | ⟨0, _⟩ => exact h
  | ⟨1, _⟩ => show 0 + 2000 ≤ 2000; omega
  | ⟨2, _⟩ => show 0 + n ≤ n; omega

theorem inb_slot (k : Fin 3) : ∀ a, (![1 * k.val, 0, 0] : Fin 3 → ℕ) a + (One n).size a ≤ (Three n).size a :=
  inb_slot_at (by omega)

theorem casts_one (n : ℕ) : (One n).ShapeCasts (Blk n) := by
  show (Blk n).numel = (One n).numel
  simp [Shape.numel, Fin.prod_univ_succ]
theorem squeezes_one (n : ℕ) : (One n).Squeezes (Blk n) := by
  unfold Shape.Squeezes
  simp [List.ofFn_succ, Shape.dropsOnes]

/-- The three slots' positions. -/
def slotSet (n : ℕ) (k : Fin 3) : Finset (Three n).Idx :=
  (Rect.unit (s := Three n) ![1 * k.val, 0, 0] (One n).size (inb_slot k)).set

theorem slotSet_disjoint (k k' : Fin 3) (h : k ≠ k') : Disjoint (slotSet n k) (slotSet n k') :=
  Ring.lead_disjoint (s := Three n) 0 1 (fun k : Fin 3 => ![1 * k.val, 0, 0]) (One n).size inb_slot (fun _ => rfl) rfl k k' h

theorem slotSet_cover : Finset.univ.biUnion (slotSet n) = Finset.univ :=
  Ring.lead_cover (s := Three n) 0 1 (fun k : Fin 3 => ![1 * k.val, 0, 0]) (One n).size inb_slot (fun _ => rfl)
    (fun k a ha => by match a with | ⟨0, _⟩ => exact absurd rfl ha | ⟨1, _⟩ => rfl | ⟨2, _⟩ => rfl) rfl
    (fun a ha => by match a with | ⟨0, _⟩ => exact absurd rfl ha | ⟨1, _⟩ => rfl | ⟨2, _⟩ => rfl) rfl

end Rows

section Split
open Idealize.SL Idealize.SL.RA Idealize.SL.BI
open scoped Idealize.SL.BI
open Idealize.SL.BI.BIBase
variable {nD : ℕ} {τ : Topo} {sig : RefSig} {Ix : Type} [DecidableEq Ix] {Val : EltTy → Type} {Name : Type} [DecidableEq Name]
variable {U : Type} [URA U] {Lvl : Type}

local notation "𝕄" => MT nD τ sig Ix Val Name U Lvl

variable {ℓ : Loc nD τ sig} (J : Fin 5 → Finset (Idx ℓ)) (hd : ∀ b b', b ≠ b' → Disjoint (J b) (J b'))
  (hc : Finset.univ.biUnion J = Finset.univ)

include hd hc in
/-- An array held whole is its five blocks, each held by its own positions. -/
theorem rows5_eq {q : PosShare TreeShare} (f : Buf Val ℓ) (P0 P1 P2 P3 P4 : sProp 𝕄)
    (e0 : P0 = (ℓ ↦[J 0]{q} f : sProp 𝕄)) (e1 : P1 = (ℓ ↦[J 1]{q} f : sProp 𝕄)) (e2 : P2 = (ℓ ↦[J 2]{q} f : sProp 𝕄))
    (e3 : P3 = (ℓ ↦[J 3]{q} f : sProp 𝕄)) (e4 : P4 = (ℓ ↦[J 4]{q} f : sProp 𝕄)) :
    (ℓ ↦{q} f : sProp 𝕄) = iprop(P0 ∗ P1 ∗ P2 ∗ P3 ∗ P4) := by
  rw [e0, e1, e2, e3, e4, Ring.pointsTo_blocks J hd hc f]
  exact bigSep_univ_eq_bigSepL [0, 1, 2, 3, 4] (by decide) (by decide) _

end Split

end Cert.Cell
-- ==== Proof.IdealRun.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.CellViews
public import Idealize.ShloMosaic.Lib.Pipeline.FrameBody
public import Idealize.ShloMosaic.Lib.Pipeline.FrameValue
public import Idealize.ShloMosaic.Lib.Tactic

/-! # One run of the cell kernel of `KernelIdeal`

The kernel's single call is run with the six row arrays held as five blocks of 2000 rows each and the six ring buffers held
as three slots each. Its fifteen transfers in, its five computations and its fifteen transfers out are then over pieces that
never overlap, and what each result block holds at the end is the block computation `valC`, `valH` or `valO` of the same
block of `x`, `h` and `c` with the packed weights. -/

@[expose] public section

noncomputable section

namespace Cert.KernelIdeal.Cell

open Cert.KernelIdeal Cert.KernelIdeal.Gen Cert.Cell
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The pieces -/

abbrev xM : Memref sig .tc .hbm S10000x128 .f32 := Memref.whole main_arg0
abbrev hM : Memref sig .tc .hbm S10000x64 .f32 := Memref.whole main_arg3
abbrev cM : Memref sig .tc .hbm S10000x64 .f32 := Memref.whole main_arg4
abbrev outM : Memref sig .tc .hbm S10000x1 .f32 := Memref.whole main_v16_0
abbrev HM : Memref sig .tc .hbm S10000x64 .f32 := Memref.whole main_v16_1
abbrev CM : Memref sig .tc .hbm S10000x64 .f32 := Memref.whole main_v16_2
abbrev xbM : Memref sig .tc .vmem S3x2000x128 .f32 := Memref.whole cc0_scratch0
abbrev hbM : Memref sig .tc .vmem S3x2000x64 .f32 := Memref.whole cc0_scratch1
abbrev cbM : Memref sig .tc .vmem S3x2000x64 .f32 := Memref.whole cc0_scratch2
abbrev obM : Memref sig .tc .vmem S3x2000x1 .f32 := Memref.whole cc0_scratch3
abbrev HbM : Memref sig .tc .vmem S3x2000x64 .f32 := Memref.whole cc0_scratch4
abbrev CbM : Memref sig .tc .vmem S3x2000x64 .f32 := Memref.whole cc0_scratch5

section Pieces
variable {n : ℕ}

/-- Rows `o` to `o + 2000` of an array of rows of `n`, and slot `s` of a ring of such blocks. -/
abbrev rows (M : Memref sig .tc .hbm (Full n) .f32) (o : ℕ) (h : o + 2000 ≤ 10000) : Memref sig .tc .hbm (Blk n) .f32 :=
  M.slice (Rect.unit (s := Full n) ![o, 0] (Blk n).size (inb_at h)) (fun _ => rfl)
abbrev slot (M : Memref sig .tc .vmem (Three n) .f32) (s : ℕ) (h : s + 1 ≤ 3) : Memref sig .tc .vmem (Blk n) .f32 :=
  (M.slice (Rect.unit (s := Three n) ![s, 0, 0] (One n).size (inb_slot_at h)) (fun _ => rfl)).squeeze (Blk n) (squeezes_one n)

abbrev BufOf (c : Dev nD) {sp : Space} {S : Shape} {e : EltTy} (M : Memref sig .tc sp S e) : Type := Buf (Elt F) (M.view.loc (c : Thread nD τ))
/-- A memref's own elements held whole at the contents `f`. -/
abbrev own (c : Dev nD) {sp : Space} {S : Shape} {e : EltTy} (M : Memref sig .tc sp S e) (f : BufOf (F := F) c M) : sProp 𝕄 :=
  M.view.loc (c : Thread nD τ) ↦[M.view.set]{fullShare} f

/-- A memref held at contents it reads as `v` is held at `v`. -/
theorem hold (c : Dev nD) {sp : Space} {S : Shape} {e : EltTy} (M : Memref sig .tc sp S e) (f : BufOf (F := F) c M) (v : S.Idx → Elt F e)
    (hv : M.view.read (Elt F) f = v) : own c M f ⊢ (owns (c : Thread nD τ) M fullShare v : sProp 𝕄) := by
  unfold owns
  iintro H
  iexists f
  isplitr; swap; · iexact H
  ipureintro; exact hv

/-- The five blocks of an array, held at the contents `f` of the whole; -/
abbrev rowsAt (c : Dev nD) (M : Memref sig .tc .hbm (Full n) .f32) (f : BufOf (F := F) c M) : sProp 𝕄 :=
  iprop(own c (rows M 0 row0) f ∗ own c (rows M 2000 row2000) f ∗ own c (rows M 4000 row4000) f
    ∗ own c (rows M 6000 row6000) f ∗ own c (rows M 8000 row8000) f)
/-- each held at some contents; -/
abbrev rowsSome (c : Dev nD) (M : Memref sig .tc .hbm (Full n) .f32) : sProp 𝕄 :=
  iprop((∃ f, own (F := F) c (rows M 0 row0) f) ∗ (∃ f, own (F := F) c (rows M 2000 row2000) f)
    ∗ (∃ f, own (F := F) c (rows M 4000 row4000) f) ∗ (∃ f, own (F := F) c (rows M 6000 row6000) f)
    ∗ (∃ f, own (F := F) c (rows M 8000 row8000) f))
/-- and each held at the block `v` of its first row. -/
abbrev rowsHold (c : Dev nD) (M : Memref sig .tc .hbm (Full n) .f32) (v : (o : ℕ) → o + 2000 ≤ 10000 → (Blk n).Idx → Elt F .f32) : sProp 𝕄 :=
  iprop(owns (c : Thread nD τ) (rows M 0 row0) fullShare (v 0 row0)
    ∗ owns (c : Thread nD τ) (rows M 2000 row2000) fullShare (v 2000 row2000)
    ∗ owns (c : Thread nD τ) (rows M 4000 row4000) fullShare (v 4000 row4000)
    ∗ owns (c : Thread nD τ) (rows M 6000 row6000) fullShare (v 6000 row6000)
    ∗ owns (c : Thread nD τ) (rows M 8000 row8000) fullShare (v 8000 row8000))
/-- The three slots of a ring, each held at some contents. -/
abbrev slotsSome (c : Dev nD) (M : Memref sig .tc .vmem (Three n) .f32) : sProp 𝕄 :=
  iprop((∃ f, own (F := F) c (slot M 0 slot0) f) ∗ (∃ f, own (F := F) c (slot M 1 slot1) f)
    ∗ (∃ f, own (F := F) c (slot M 2 slot2) f))

end Pieces

/-- A transfer's counter at zero, and all eighteen. -/
abbrev cellAt (c : Dev nD) (n : Fin 20) : sProp 𝕄 := semVal ((c : Thread nD τ), SemLoc.dma n) 0
abbrev cells (c : Dev nD) : sProp 𝕄 :=
  iprop(cellAt (F := F) c 2 ∗ cellAt (F := F) c 3 ∗ cellAt (F := F) c 4 ∗ cellAt (F := F) c 5 ∗ cellAt (F := F) c 6 ∗ cellAt (F := F) c 7
    ∗ cellAt (F := F) c 8 ∗ cellAt (F := F) c 9 ∗ cellAt (F := F) c 10 ∗ cellAt (F := F) c 11 ∗ cellAt (F := F) c 12 ∗ cellAt (F := F) c 13
    ∗ cellAt (F := F) c 14 ∗ cellAt (F := F) c 15 ∗ cellAt (F := F) c 16 ∗ cellAt (F := F) c 17 ∗ cellAt (F := F) c 18 ∗ cellAt (F := F) c 19)

/-! ## The block computation -/

/-- A block of `x`, `h` or `c` as a slot's load delivers it. -/
abbrev up128 (p : S2000x128.Idx → Elt F .f32) : Vec F S1x2000x128 .f32 := shapeCast S1x2000x128 p shapeCasts_S1x2000x128_S2000x128.symm
abbrev up64 (p : S2000x64.Idx → Elt F .f32) : Vec F S1x2000x64 .f32 := shapeCast S1x2000x64 p shapeCasts_S1x2000x64_S2000x64.symm

/-- The parts of the packed weights the kernel loads. -/
abbrev packW (P : S200x256.Idx → Elt F .f32) : Vec F S128x256 .f32 := fun i => P ((Rect.unit (s := S200x256) ![0, 0] S128x256.size inb_S200x256_S128x256_0_0).idx i)
abbrev packT (P : S200x256.Idx → Elt F .f32) : Vec F S64x256 .f32 := fun i => P ((Rect.unit (s := S200x256) ![128, 0] S64x256.size inb_S200x256_S64x256_128_0).idx i)
abbrev packB (P : S200x256.Idx → Elt F .f32) : Vec F S1x256 .f32 := fun i => P ((Rect.unit (s := S200x256) ![192, 0] S1x256.size inb_S200x256_S1x256_192_0).idx i)
abbrev packV (P : S200x256.Idx → Elt F .f32) : Vec F S1x256 .f32 := fun i => P ((Rect.unit (s := S200x256) ![193, 0] S1x256.size inb_S200x256_S1x256_193_0).idx i)
abbrev scalB (b : S1x1.Idx → Elt F .f32) : Vec F S1x1 .f32 := fun i => b ((Rect.unit (s := S1x1) ![0, 0] S1x1.size inb_S1x1_S1x1_0_0).idx i)

/-- The new cell state of a block, from the block as loaded; -/
def cellC (X : Vec F S1x2000x128 .f32) (Hh Cc : Vec F S1x2000x64 .f32) (P : S200x256.Idx → Elt F .f32) : FVec F S2000x64 .f32 :=
  k0_pay4 (k0_pay1 Cc) (k0_pay2 X Hh (packW P) (packT P) (packB P)) (packV P)
/-- its new hidden state; -/
def cellH (X : Vec F S1x2000x128 .f32) (Hh Cc : Vec F S1x2000x64 .f32) (P : S200x256.Idx → Elt F .f32) : FVec F S2000x64 .f32 :=
  k0_pay5 (k0_pay1 Cc) (k0_pay2 X Hh (packW P) (packT P) (packB P)) (packV P)
/-- its read-out. -/
def cellO (X : Vec F S1x2000x128 .f32) (Hh Cc : Vec F S1x2000x64 .f32) (P : S200x256.Idx → Elt F .f32) (b : S1x1.Idx → Elt F .f32) : FVec F S2000x1 .f32 :=
  k0_pay8 (k0_pay1 Cc) (k0_pay2 X Hh (packW P) (packT P) (packB P)) (packV P) (scalB b)

/-- The same of a block of 2000 rows. -/
def valC (x : S2000x128.Idx → Elt F .f32) (h c : S2000x64.Idx → Elt F .f32) (P : S200x256.Idx → Elt F .f32) : S2000x64.Idx → Elt F .f32 :=
  cellC (up128 x) (up64 h) (up64 c) P
def valH (x : S2000x128.Idx → Elt F .f32) (h c : S2000x64.Idx → Elt F .f32) (P : S200x256.Idx → Elt F .f32) : S2000x64.Idx → Elt F .f32 :=
  cellH (up128 x) (up64 h) (up64 c) P
def valO (x : S2000x128.Idx → Elt F .f32) (h c : S2000x64.Idx → Elt F .f32) (P : S200x256.Idx → Elt F .f32) (b : S1x1.Idx → Elt F .f32) : S2000x1.Idx → Elt F .f32 :=
  cellO (up128 x) (up64 h) (up64 c) P b

section Slots
variable {n : ℕ}

/-- What a load of slot `s` of a ring finds once a transfer has delivered `p` there (after the deliveries `l`). -/
abbrev ld (M : Memref sig .tc .vmem (Three n) .f32) (l : List (View.Piece (Elt F) (Blk n) .f32)) (s : ℕ) (hs : s + 1 ≤ 3) (p : (Blk n).Idx → Elt F .f32) :
    Vec F (One n) .f32 :=
  M.view.readAt (Elt F) (Rect.unit (s := Three n) ![s, 0, 0] (One n).size (inb_slot_at hs)).toLoadRect
    ((slot M s hs).view.writes (Elt F) (slot M s hs).view.junk (⟨Rect.whole (Blk n), p⟩ :: l))
theorem ld_eq (M : Memref sig .tc .vmem (Three n) .f32) (l : List (View.Piece (Elt F) (Blk n) .f32)) (s : ℕ) (hs : s + 1 ≤ 3) (p : (Blk n).Idx → Elt F .f32) :
    ld (F := F) M l s hs p = shapeCast (One n) p (casts_one n).symm :=
  slot_load M (Rect.unit (s := Three n) ![s, 0, 0] (One n).size (inb_slot_at hs)) (fun _ => rfl) (squeezes_one n) (casts_one n).symm (casts_one n) _ p l
/-- A result slot stored whole from the vector `w`, read back. -/
theorem put (M : Memref sig .tc .vmem (Three n) .f32) (s : ℕ) (hs : s + 1 ≤ 3) (f : M.view.ty.Contents (Elt F)) (w v : (Blk n).Idx → Elt F .f32) (e : w = v) :
    (slot M s hs).view.read (Elt F) (View.write (Elt F) (M.access (Rect.unit (s := Three n) ![s, 0, 0] (One n).size (inb_slot_at hs))) f
      (shapeCast (One n) w (casts_one n).symm) Finset.univ) = v :=
  (slot_store_read M (Rect.unit (s := Three n) ![s, 0, 0] (One n).size (inb_slot_at hs)) (fun _ => rfl) (squeezes_one n) (casts_one n) f _).trans
    ((shapeCast_shapeCast _ _ _).trans e)

end Slots

section Loaded
variable (gx : List (View.Piece (Elt F) (Blk 128) .f32)) (gh gc : List (View.Piece (Elt F) (Blk 64) .f32)) (s : ℕ) (hs : s + 1 ≤ 3)
  (x : S2000x128.Idx → Elt F .f32) (h c : S2000x64.Idx → Elt F .f32) (P : S200x256.Idx → Elt F .f32) (b : S1x1.Idx → Elt F .f32)

/-- The block computations of a block's loads. -/
theorem cellC_ld : cellC (ld xbM gx s hs x) (ld hbM gh s hs h) (ld cbM gc s hs c) P = valC x h c P := by
  rw [ld_eq, ld_eq, ld_eq]; rfl
theorem cellH_ld : cellH (ld xbM gx s hs x) (ld hbM gh s hs h) (ld cbM gc s hs c) P = valH x h c P := by
  rw [ld_eq, ld_eq, ld_eq]; rfl
theorem cellO_ld : cellO (ld xbM gx s hs x) (ld hbM gh s hs h) (ld cbM gc s hs c) P b = valO x h c P b := by
  rw [ld_eq, ld_eq, ld_eq]; rfl

end Loaded

/-! ## The run -/

set_option maxHeartbeats 4000000 in
theorem kernelRun (c : Dev nD) (arg3 : Memref sig .tc .vmem S200x256 .f32) (harg3 : arg3.IsWhole) (arg4 : Memref sig .tc .vmem S1x1 .f32) (harg4 : arg4.IsWhole)
    (P : S200x256.Idx → Elt F .f32) (bfc : S1x1.Idx → Elt F .f32)
    (fx : BufOf (F := F) c xM) (fh : BufOf (F := F) c hM) (fc : BufOf (F := F) c cM) (W : Waits sig Unit) (K : PUnit → sProp 𝕄) :
    iprop(owns (c : Thread nD τ) arg3 fullShare P ∗ owns (c : Thread nD τ) arg4 fullShare bfc ∗ owes (c : Thread nD τ) 0 W
      ∗ rowsAt c xM fx ∗ rowsAt c hM fh ∗ rowsAt c cM fc
      ∗ rowsSome (F := F) c outM ∗ rowsSome (F := F) c HM ∗ rowsSome (F := F) c CM
      ∗ slotsSome (F := F) c xbM ∗ slotsSome (F := F) c hbM ∗ slotsSome (F := F) c cbM
      ∗ slotsSome (F := F) c obM ∗ slotsSome (F := F) c HbM ∗ slotsSome (F := F) c CbM
      ∗ cells (F := F) c
      ∗ (iprop(owns (c : Thread nD τ) arg3 fullShare P ∗ owns (c : Thread nD τ) arg4 fullShare bfc
          ∗ rowsAt c xM fx ∗ rowsAt c hM fh ∗ rowsAt c cM fc
          ∗ rowsHold c outM (fun o ho => valO ((rows xM o ho).view.read (Elt F) fx) ((rows hM o ho).view.read (Elt F) fh) ((rows cM o ho).view.read (Elt F) fc) P bfc)
          ∗ rowsHold c HM (fun o ho => valH ((rows xM o ho).view.read (Elt F) fx) ((rows hM o ho).view.read (Elt F) fh) ((rows cM o ho).view.read (Elt F) fc) P)
          ∗ rowsHold c CM (fun o ho => valC ((rows xM o ho).view.read (Elt F) fx) ((rows hM o ho).view.read (Elt F) fh) ((rows cM o ho).view.read (Elt F) fc) P)
          ∗ slotsSome (F := F) c xbM ∗ slotsSome (F := F) c hbM ∗ slotsSome (F := F) c cbM
          ∗ slotsSome (F := F) c obM ∗ slotsSome (F := F) c HbM ∗ slotsSome (F := F) c CbM
          ∗ cells (F := F) c ∗ (∃ W', owes (c : Thread nD τ) 0 W')) -∗ K ⟨⟩))
    ⊢ wp frame (wpE (defs₀ (F := F)) Variants.none c none) Set.univ
     (cc0__cell_kernel xM (Memref.isWhole_whole _) hM (Memref.isWhole_whole _) cM (Memref.isWhole_whole _) arg3 harg3 arg4 harg4
       outM (Memref.isWhole_whole _) HM (Memref.isWhole_whole _) CM (Memref.isWhole_whole _)
       xbM (Memref.isWhole_whole _) hbM (Memref.isWhole_whole _) cbM (Memref.isWhole_whole _)
       obM (Memref.isWhole_whole _) HbM (Memref.isWhole_whole _) CbM (Memref.isWhole_whole _)
       cc0_scratch6 cc0_scratch7 cc0_scratch8 cc0_scratch9 cc0_scratch10 cc0_scratch11) K := by
  simp only [cc0__cell_kernel_eq_skeleton]; unfold cc0__cell_kernel_skel
  unfold owns
  iintro ⟨⟨%fp, %hfp, HP⟩, ⟨%fb, %hfb, HB⟩, HW, ⟨xM0, xM1, xM2, xM3, xM4⟩, ⟨hM0, hM1, hM2, hM3, hM4⟩, ⟨cM0, cM1, cM2, cM3, cM4⟩,
    ⟨⟨%foutM0, outM0⟩, ⟨%foutM1, outM1⟩, ⟨%foutM2, outM2⟩, ⟨%foutM3, outM3⟩, ⟨%foutM4, outM4⟩⟩,
    ⟨⟨%fHM0, HM0⟩, ⟨%fHM1, HM1⟩, ⟨%fHM2, HM2⟩, ⟨%fHM3, HM3⟩, ⟨%fHM4, HM4⟩⟩,
    ⟨⟨%fCM0, CM0⟩, ⟨%fCM1, CM1⟩, ⟨%fCM2, CM2⟩, ⟨%fCM3, CM3⟩, ⟨%fCM4, CM4⟩⟩,
    ⟨⟨%fxbM0, xbM0⟩, ⟨%fxbM1, xbM1⟩, ⟨%fxbM2, xbM2⟩⟩, ⟨⟨%fhbM0, hbM0⟩, ⟨%fhbM1, hbM1⟩, ⟨%fhbM2, hbM2⟩⟩, ⟨⟨%fcbM0, cbM0⟩, ⟨%fcbM1, cbM1⟩, ⟨%fcbM2, cbM2⟩⟩,
    ⟨⟨%fobM0, obM0⟩, ⟨%fobM1, obM1⟩, ⟨%fobM2, obM2⟩⟩, ⟨⟨%fHbM0, HbM0⟩, ⟨%fHbM1, HbM1⟩, ⟨%fHbM2, HbM2⟩⟩, ⟨⟨%fCbM0, CbM0⟩, ⟨%fCbM1, CbM1⟩, ⟨%fCbM2, CbM2⟩⟩,
    ⟨S2, S3, S4, S5, S6, S7, S8, S9, S10, S11, S12, S13, S14, S15, S16, S17, S18, S19⟩, Hk⟩
  subst hfp hfb
  sl_exec
  sl_step
  iapply Hk
  isplitl [HP]; · iexists _; isplitr; swap; · iexact HP
                  ipureintro; rfl
  isplitl [HB]; · iexists _; isplitr; swap; · iexact HB
                  ipureintro; rfl
  isplitl [xM0 xM1 xM2 xM3 xM4]
  · isplitl [xM0]; · iexact xM0
    isplitl [xM1]; · iexact xM1
    isplitl [xM2]; · iexact xM2
    isplitl [xM3]; · iexact xM3
    iexact xM4
  isplitl [hM0 hM1 hM2 hM3 hM4]
  · isplitl [hM0]; · iexact hM0
    isplitl [hM1]; · iexact hM1
    isplitl [hM2]; · iexact hM2
    isplitl [hM3]; · iexact hM3
    iexact hM4
  isplitl [cM0 cM1 cM2 cM3 cM4]
  · isplitl [cM0]; · iexact cM0
    isplitl [cM1]; · iexact cM1
    isplitl [cM2]; · iexact cM2
    isplitl [cM3]; · iexact cM3
    iexact cM4
  isplitl [outM0 outM1 outM2 outM3 outM4]
  · isplitl [outM0]; · iapply (hold c _ _ _ ((View.read_writes_whole _ _ _).trans (put _ 0 slot0 _ _ _ (cellO_ld _ _ _ _ _ _ _ _ _ _)))); iexact outM0
    isplitl [outM1]; · iapply (hold c _ _ _ ((View.read_writes_whole _ _ _).trans (put _ 1 slot1 _ _ _ (cellO_ld _ _ _ _ _ _ _ _ _ _)))); iexact outM1
    isplitl [outM2]; · iapply (hold c _ _ _ ((View.read_writes_whole _ _ _).trans (put _ 2 slot2 _ _ _ (cellO_ld _ _ _ _ _ _ _ _ _ _)))); iexact outM2
    isplitl [outM3]; · iapply (hold c _ _ _ ((View.read_writes_whole _ _ _).trans (put _ 0 slot0 _ _ _ (cellO_ld _ _ _ _ _ _ _ _ _ _)))); iexact outM3
    iapply (hold c _ _ _ ((View.read_writes_whole _ _ _).trans (put _ 1 slot1 _ _ _ (cellO_ld _ _ _ _ _ _ _ _ _ _)))); iexact outM4
  isplitl [HM0 HM1 HM2 HM3 HM4]
  · isplitl [HM0]; · iapply (hold c _ _ _ ((View.read_writes_whole _ _ _).trans (put _ 0 slot0 _ _ _ (cellH_ld _ _ _ _ _ _ _ _ _)))); iexact HM0
    isplitl [HM1]; · iapply (hold c _ _ _ ((View.read_writes_whole _ _ _).trans (put _ 1 slot1 _ _ _ (cellH_ld _ _ _ _ _ _ _ _ _)))); iexact HM1
    isplitl [HM2]; · iapply (hold c _ _ _ ((View.read_writes_whole _ _ _).trans (put _ 2 slot2 _ _ _ (cellH_ld _ _ _ _ _ _ _ _ _)))); iexact HM2
    isplitl [HM3]; · iapply (hold c _ _ _ ((View.read_writes_whole _ _ _).trans (put _ 0 slot0 _ _ _ (cellH_ld _ _ _ _ _ _ _ _ _)))); iexact HM3
    iapply (hold c _ _ _ ((View.read_writes_whole _ _ _).trans (put _ 1 slot1 _ _ _ (cellH_ld _ _ _ _ _ _ _ _ _)))); iexact HM4
  isplitl [CM0 CM1 CM2 CM3 CM4]
  · isplitl [CM0]; · iapply (hold c _ _ _ ((View.read_writes_whole _ _ _).trans (put _ 0 slot0 _ _ _ (cellC_ld _ _ _ _ _ _ _ _ _)))); iexact CM0
    isplitl [CM1]; · iapply (hold c _ _ _ ((View.read_writes_whole _ _ _).trans (put _ 1 slot1 _ _ _ (cellC_ld _ _ _ _ _ _ _ _ _)))); iexact CM1
    isplitl [CM2]; · iapply (hold c _ _ _ ((View.read_writes_whole _ _ _).trans (put _ 2 slot2 _ _ _ (cellC_ld _ _ _ _ _ _ _ _ _)))); iexact CM2
    isplitl [CM3]; · iapply (hold c _ _ _ ((View.read_writes_whole _ _ _).trans (put _ 0 slot0 _ _ _ (cellC_ld _ _ _ _ _ _ _ _ _)))); iexact CM3
    iapply (hold c _ _ _ ((View.read_writes_whole _ _ _).trans (put _ 1 slot1 _ _ _ (cellC_ld _ _ _ _ _ _ _ _ _)))); iexact CM4
  isplitl [xbM0 xbM1 xbM2]
  · isplitl [xbM0]; · iexists _; iexact xbM0
    isplitl [xbM1]; · iexists _; iexact xbM1
    iexists _; iexact xbM2
  isplitl [hbM0 hbM1 hbM2]
  · isplitl [hbM0]; · iexists _; iexact hbM0
    isplitl [hbM1]; · iexists _; iexact hbM1
    iexists _; iexact hbM2
  isplitl [cbM0 cbM1 cbM2]
  · isplitl [cbM0]; · iexists _; iexact cbM0
    isplitl [cbM1]; · iexists _; iexact cbM1
    iexists _; iexact cbM2
  isplitl [obM0 obM1 obM2]
  · isplitl [obM0]; · iexists _; iexact obM0
    isplitl [obM1]; · iexists _; iexact obM1
    iexists _; iexact obM2
  isplitl [HbM0 HbM1 HbM2]
  · isplitl [HbM0]; · iexists _; iexact HbM0
    isplitl [HbM1]; · iexists _; iexact HbM1
    iexists _; iexact HbM2
  isplitl [CbM0 CbM1 CbM2]
  · isplitl [CbM0]; · iexists _; iexact CbM0
    isplitl [CbM1]; · iexists _; iexact CbM1
    iexists _; iexact CbM2
  isplitl [S2 S3 S4 S5 S6 S7 S8 S9 S10 S11 S12 S13 S14 S15 S16 S17 S18 S19]
  · isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    iexact S19
  iexists _; iexact HW

end Cert.KernelIdeal.Cell

end
-- ==== Proof.IdealLaunch.lean ====
module

public import proofs.«01_k».proof.Proof.IdealRun
public import proofs.«01_k».proof.Proof.Gen.KernelIdeal.Frame

/-! # The launch of `KernelIdeal`

The one kernel call under its launch: the invariant gives the body the six ring buffers, the eighteen transfer counters, the
three row arrays it reads and the three results it writes; each array is cut into its five blocks, each ring into its three
slots, `kernelRun` runs the body, and the pieces are joined again. Every run ends with the arguments unchanged, the results at
`glue`d block computations and every counter at zero. -/

@[expose] public section

noncomputable section

namespace Cert.KernelIdeal.Cell

open Cert.KernelIdeal Cert.KernelIdeal.Gen Cert.Cell
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

private theorem ent {P Q : sProp 𝕄} (e : P = Q) : P ⊢ Q := e ▸ .rfl

/-! ## Arrays by blocks, rings by slots -/

section Pieces
variable {n : ℕ} (c : Dev nD)

/-- A block's elements in the buffer, held: the block held. -/
theorem own_slice (M : Memref sig .tc .hbm (Full n) .f32) (k : Fin 5) (o : ℕ) (ho : o = 2000 * k.val) (h : o + 2000 ≤ 10000) (f : BufOf (F := F) c M) :
    own c (rows M o h) f = (M.view.loc (c : Thread nD τ) ↦[(rowSet n k).map M.view.emb]{fullShare} f : sProp 𝕄) := by
  subst ho
  exact congrArg (fun I => (M.view.loc (c : Thread nD τ) ↦[I]{fullShare} f : sProp 𝕄)) (View.set_slice _ _)

/-- An array held whole is its five blocks held. -/
theorem rowsAt_eq (M : Memref sig .tc .hbm (Full n) .f32) (hw : M.view.set = Finset.univ) (f : BufOf (F := F) c M) :
    (M.view.loc (c : Thread nD τ) ↦{fullShare} f : sProp 𝕄) = rowsAt c M f :=
  rows5_eq (ℓ := M.view.loc (c : Thread nD τ)) (fun k => (rowSet n k).map M.view.emb) (fun k k' h => (Finset.disjoint_map _).mpr (rowSet_disjoint k k' h))
    (cover_map rowSet_cover hw) f _ _ _ _ _
    (own_slice c M 0 0 rfl row0 f) (own_slice c M 1 2000 rfl row2000 f) (own_slice c M 2 4000 rfl row4000 f) (own_slice c M 3 6000 rfl row6000 f) (own_slice c M 4 8000 rfl row8000 f)

theorem rowsAt_some (M : Memref sig .tc .hbm (Full n) .f32) (hw : M.view.set = Finset.univ) (f : BufOf (F := F) c M) :
    (M.view.loc (c : Thread nD τ) ↦{fullShare} f : sProp 𝕄) ⊢ rowsSome (F := F) c M := by
  rw [rowsAt_eq c M hw f]
  iintro ⟨H0, H1, H2, H3, H4⟩
  isplitl [H0]; · iexists f; iexact H0
  isplitl [H1]; · iexists f; iexact H1
  isplitl [H2]; · iexists f; iexact H2
  isplitl [H3]; · iexists f; iexact H3
  iexists f; iexact H4

/-- A slot's elements in the buffer, held: the slot held. -/
theorem own_slot (M : Memref sig .tc .vmem (Three n) .f32) (k : Fin 3) (s : ℕ) (hs : s = 1 * k.val) (h : s + 1 ≤ 3) (f : BufOf (F := F) c M) :
    own c (slot M s h) f = (M.view.loc (c : Thread nD τ) ↦[(slotSet n k).map M.view.emb]{fullShare} f : sProp 𝕄) := by
  subst hs
  exact congrArg (fun I => (M.view.loc (c : Thread nD τ) ↦[I]{fullShare} f : sProp 𝕄)) ((View.set_reshape _ _).trans (View.set_slice _ _))

/-- A ring held whole at some contents is its three slots held so, and the three slots are the ring. -/
theorem slots_split (M : Memref sig .tc .vmem (Three n) .f32) (hw : M.view.set = Finset.univ) :
    iprop(∃ f : BufOf (F := F) c M, M.view.loc (c : Thread nD τ) ↦{fullShare} f) ⊢ slotsSome (F := F) c M :=
  Ring.slots3_split (ℓ := M.view.loc (c : Thread nD τ)) (fun k => (slotSet n k).map M.view.emb) (fun k k' h => (Finset.disjoint_map _).mpr (slotSet_disjoint k k' h))
    (cover_map slotSet_cover hw) (fun f => own c (slot M 0 slot0) f) (fun f => own c (slot M 1 slot1) f) (fun f => own c (slot M 2 slot2) f)
    (own_slot c M 0 0 rfl slot0) (own_slot c M 1 1 rfl slot1) (own_slot c M 2 2 rfl slot2)
theorem slots_join (M : Memref sig .tc .vmem (Three n) .f32) (hw : M.view.set = Finset.univ) :
    slotsSome (F := F) c M ⊢ iprop(∃ f : BufOf (F := F) c M, M.view.loc (c : Thread nD τ) ↦{fullShare} f) :=
  Ring.slots3_join (ℓ := M.view.loc (c : Thread nD τ)) (fun k => (slotSet n k).map M.view.emb) (fun k k' h => (Finset.disjoint_map _).mpr (slotSet_disjoint k k' h))
    (cover_map slotSet_cover hw) (fun f => own c (slot M 0 slot0) f) (fun f => own c (slot M 1 slot1) f) (fun f => own c (slot M 2 slot2) f)
    (own_slot c M 0 0 rfl slot0) (own_slot c M 1 1 rfl slot1) (own_slot c M 2 2 rfl slot2)

/-! ## What the results hold -/

/-- Rows `2000 * k` on, read through the memref of those rows: block `k`. -/
theorem read_rows (M : Memref sig .tc .hbm (Full n) .f32) (k : Fin 5) (h) (f : M.view.ty.Contents (Elt F)) :
    (rows M (2000 * k.val) h).view.read (Elt F) f = blk k (M.view.read (Elt F) f) := by
  funext z
  show M.view.read (Elt F) f ((Rect.unit (s := Full n) ![2000 * k.val, 0] (Blk n).size (inb_at h)).idx z) = _
  exact congrArg (M.view.read (Elt F) f) (emb_rows k (inb_at h) z)
/-- A memref held at a vector is that memref held at any contents it reads so. -/
theorem release {sp : Space} {S : Shape} {e : EltTy} (M : Memref sig .tc sp S e) (v : S.Idx → Elt F e) (g : BufOf (F := F) c M)
    (hg : M.view.read (Elt F) g = v) : owns (c : Thread nD τ) M fullShare v ⊢ (own c M g : sProp 𝕄) := by
  unfold owns
  iintro ⟨%f, %hf, H⟩
  have e : own c M f = (own c M g : sProp 𝕄) := pointsTo_congr (eqOn_of_read _ _ _ (hf.trans hg.symm))
  iapply (ent e); iexact H
/-- Five blocks held at the blocks of `g` are the array held at `g`. -/
theorem rows_whole (M : Memref sig .tc .hbm (Full n) .f32) (hw : M.view.set = Finset.univ) (g : BufOf (F := F) c M)
    (v : (o : ℕ) → o + 2000 ≤ 10000 → (Blk n).Idx → Elt F .f32)
    (hv : ∀ (k : Fin 5) (o : ℕ) (_ : o = 2000 * k.val) (h : o + 2000 ≤ 10000), (rows M o h).view.read (Elt F) g = v o h) :
    rowsHold c M v ⊢ (M.view.loc (c : Thread nD τ) ↦{fullShare} g : sProp 𝕄) := by
  rw [rowsAt_eq c M hw g]
  exact BI.sep_mono (release c (rows M 0 row0) _ g (hv 0 0 rfl row0)) (BI.sep_mono (release c (rows M 2000 row2000) _ g (hv 1 2000 rfl row2000)) (BI.sep_mono (release c (rows M 4000 row4000) _ g (hv 2 4000 rfl row4000))
    (BI.sep_mono (release c (rows M 6000 row6000) _ g (hv 3 6000 rfl row6000)) (release c (rows M 8000 row8000) _ g (hv 4 8000 rfl row8000)))))
/-- The five blocks a run leaves, each the computation `val` of the same block of the three inputs, are the whole result. -/
theorem result_whole (M : Memref sig .tc .hbm (Full n) .f32) (hw : M.view.set = Finset.univ)
    (val : (S2000x128.Idx → Elt F .f32) → (S2000x64.Idx → Elt F .f32) → (S2000x64.Idx → Elt F .f32) → (Blk n).Idx → Elt F .f32)
    (x : BufOf (F := F) c xM) (h : BufOf (F := F) c hM) (cc : BufOf (F := F) c cM) (g : BufOf (F := F) c M)
    (hg : M.view.read (Elt F) g = glue fun k => val (blk k (xM.view.read (Elt F) x)) (blk k (hM.view.read (Elt F) h)) (blk k (cM.view.read (Elt F) cc))) :
    rowsHold c M (fun o ho => val ((rows xM o ho).view.read (Elt F) x) ((rows hM o ho).view.read (Elt F) h) ((rows cM o ho).view.read (Elt F) cc))
      ⊢ (M.view.loc (c : Thread nD τ) ↦{fullShare} g : sProp 𝕄) :=
  rows_whole c M hw g _ fun k o ho hk => by
    subst ho
    rw [read_rows, read_rows, read_rows, read_rows, hg, blk_glue]

end Pieces

section Values
variable (x : S10000x128.Idx → Elt F .f32) (h cc : S10000x64.Idx → Elt F .f32) (P : S200x256.Idx → Elt F .f32) (b : S1x1.Idx → Elt F .f32)

/-- The new cell state, the new hidden state and the read-out of all 10000 rows. -/
def allC : S10000x64.Idx → Elt F .f32 := glue fun k => valC (blk k x) (blk k h) (blk k cc) P
def allH : S10000x64.Idx → Elt F .f32 := glue fun k => valH (blk k x) (blk k h) (blk k cc) P
def allO : S10000x1.Idx → Elt F .f32 := glue fun k => valO (blk k x) (blk k h) (blk k cc) P b

end Values

variable (m : (ℓ : Loc nD τ sig) → Buf (Elt F) ℓ) (ρ : Dev nD → PrngReg)

/-- The packed weights and the bias of the read-out, as the kernel call finds them. -/
abbrev packed (c : Dev nD) : S200x256.Idx → Elt F .f32 := V m c main_v14
abbrev scal (c : Dev nD) : S1x1.Idx → Elt F .f32 := V m c main_v15

/-- Every buffer after the call: the three results at the block computations, the others as the call found them. -/
def G (c : Dev nD) : (b : Ref sig .tc) → Buf (Elt F) ((c : Thread nD τ).loc b) :=
  Function.update (Function.update (Function.update (V m c)
    main_v16_0 (allO (V m c main_arg0) (V m c main_arg3) (V m c main_arg4) (packed m c) (scal m c)))
    main_v16_1 (allH (V m c main_arg0) (V m c main_arg3) (V m c main_arg4) (packed m c)))
    main_v16_2 (allC (V m c main_arg0) (V m c main_arg3) (V m c main_arg4) (packed m c))

theorem G_C (c : Dev nD) : G m c main_v16_2 = allC (V m c main_arg0) (V m c main_arg3) (V m c main_arg4) (packed m c) := by
  unfold G; rw [Function.update_self]
theorem G_H (c : Dev nD) : G m c main_v16_1 = allH (V m c main_arg0) (V m c main_arg3) (V m c main_arg4) (packed m c) := by
  unfold G; rw [Function.update_of_ne (by decide), Function.update_self]
theorem G_O (c : Dev nD) : G m c main_v16_0 = allO (V m c main_arg0) (V m c main_arg3) (V m c main_arg4) (packed m c) (scal m c) := by
  unfold G; rw [Function.update_of_ne (by decide), Function.update_of_ne (by decide), Function.update_self]

/-! ## The invariant -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The eighteen transfer counters of the kernel. -/
abbrev osem0 : Fin 18 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19] : Fin 18 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = cells (F := F) c := by
  rw [Pipeline.ownSems0_eq_of_list c osem0 [0, 1, 2, 3, 4, 5, 6, 7, 8, 9, 10, 11, 12, 13, 14, 15, 16, 17] (by decide) (by decide)]; rfl
/-- The row arrays read and the results written by the kernel's own transfers. -/
def H0 : Finset (Ref sig .tc) := {main_arg0, main_arg3, main_arg4}
def R0 : Finset (Ref sig .tc) := {main_v16_0, main_v16_1, main_v16_2}
theorem H0_sub : H0 ⊆ Pipeline.restRefs sig spec0 := by decide
theorem R0_sub : R0 ⊆ Pipeline.restRefs sig spec0 \ H0 := by decide
theorem hbm0_eq (c : Dev nD) :
    (bigSep H0 (fun b => ((c : Thread nD τ).loc b) ↦{fullShare} V m c b) : sProp 𝕄)
      = iprop(((c : Thread nD τ).loc main_arg0 ↦{fullShare} V m c main_arg0) ∗ ((c : Thread nD τ).loc main_arg3 ↦{fullShare} V m c main_arg3)
          ∗ ((c : Thread nD τ).loc main_arg4 ↦{fullShare} V m c main_arg4)) := by
  rw [BI.bigSep_eq_bigSepL_of_eq [main_arg0, main_arg3, main_arg4] (by decide) (by decide)]; rfl
theorem routed0_eq (c : Dev nD) (W : (b : Ref sig .tc) → Buf (Elt F) ((c : Thread nD τ).loc b)) :
    (Pipeline.routed R0 c W : sProp 𝕄)
      = iprop(((c : Thread nD τ).loc main_v16_0 ↦{fullShare} W main_v16_0) ∗ ((c : Thread nD τ).loc main_v16_1 ↦{fullShare} W main_v16_1)
          ∗ ((c : Thread nD τ).loc main_v16_2 ↦{fullShare} W main_v16_2)) := by
  unfold Pipeline.routed; rw [BI.bigSep_eq_bigSepL_of_eq [main_v16_0, main_v16_1, main_v16_2] (by decide) (by decide)]; rfl

/-- The proof data of the one pipeline on core `c`: its two windows' arrays as the call finds them, each block left in place,
    and the invariant, whose results are at the found contents before the body and at `G` after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := if t.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)

/-- Both windows show their whole array. -/
theorem iblk0_eq (c : Dev nD) (t : Fin cfg0.N) : (iblk m c 0 t : S200x256.Idx → Elt F .f32) = packed m c := by
  funext i
  show V m c main_v14 (((cfg0.win 0).blk t).view.emb i) = V m c main_v14 i
  congr 1
  funext a; apply Fin.ext
  match a with
  | ⟨0, _⟩ => show 0 * _ + 1 * (i 0).val = (i 0).val; omega
  | ⟨1, _⟩ => show 0 * _ + 1 * (i 1).val = (i 1).val; omega
theorem iblk1_eq (c : Dev nD) (t : Fin cfg0.N) : (iblk m c 1 t : S1x1.Idx → Elt F .f32) = scal m c := by
  funext i
  show V m c main_v15 (((cfg0.win 1).blk t).view.emb i) = V m c main_v15 i
  congr 1
  funext a; apply Fin.ext
  match a with
  | ⟨0, _⟩ => show 0 * _ + 1 * (i 0).val = (i 0).val; omega
  | ⟨1, _⟩ => show 0 * _ + 1 * (i 1).val = (i 1).val; omega

/-! ## The body -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem st0_packed (c : Dev nD) (t : Fin cfg0.N) :
    (owns (c : Thread nD τ) (st0_0 t) fullShare (iblk m c 0 t) : sProp 𝕄) = owns (c : Thread nD τ) (st0_0 t) fullShare (packed m c) :=
  congrArg (owns (c : Thread nD τ) (st0_0 t) fullShare) (iblk0_eq m c t)
theorem st1_scal (c : Dev nD) (t : Fin cfg0.N) :
    (owns (c : Thread nD τ) (st0_1 t) fullShare (iblk m c 1 t) : sProp 𝕄) = owns (c : Thread nD τ) (st0_1 t) fullShare (scal m c) :=
  congrArg (owns (c : Thread nD τ) (st0_1 t) fullShare) (iblk1_eq m c t)

theorem Phi_start (c : Dev nD) (t : Fin cfg0.N) : (dats m 0 c).Φ t.castSucc = Pipeline.ΦDRG osem0 spec0 H0 R0 (V m) (V m) c := by
  have ht : t.val < 1 := t.isLt
  exact if_pos (show t.val = 0 by omega)
theorem Phi_end (c : Dev nD) (t : Fin cfg0.N) : (dats m 0 c).Φ t.succ = Pipeline.ΦDRG osem0 spec0 H0 R0 (V m) (G m) c := by
  dsimp only [dats]; exact if_neg (Nat.succ_ne_zero _)

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_start, Phi_end, after0_0, after0_1, Pipeline.ΦDRG_eq, Pipeline.ΦDRG_eq, scopedRest0_eq, ownSems00_eq, hbm0_eq, routed0_eq, routed0_eq]
  simp only [before0_0, before0_1]
  unfold Dat.owesAt Pipeline.owesWithin
  rw [show (dats m 0 c).owed t.castSucc = 0 from rfl, show (dats m 0 c).owed t.succ = 0 from rfl]
  iintro ⟨⟨⟨HS0, HS1, HS2, HS3, HS4, HS5⟩, Hg, HC, ⟨Hx, Hh, Hc⟩, ⟨HrO, HrH, HrC⟩⟩, ⟨%W, -, HW⟩, ⟨%d0, HP⟩, ⟨%d1, HB⟩⟩
  iapply (kernelRun c _ _ _ _ (packed m c) (scal m c) (V m c main_arg0) (V m c main_arg3) (V m c main_arg4) W _)
  isplitl [HP]; · iapply (ent (st0_packed m c t)); iexact HP
  isplitl [HB]; · iapply (ent (st1_scal m c t)); iexact HB
  isplitl [HW]; · iexact HW
  isplitl [Hx]; · iapply (ent (rowsAt_eq c xM (View.set_whole _) _)); iexact Hx
  isplitl [Hh]; · iapply (ent (rowsAt_eq c hM (View.set_whole _) _)); iexact Hh
  isplitl [Hc]; · iapply (ent (rowsAt_eq c cM (View.set_whole _) _)); iexact Hc
  isplitl [HrO]; · iapply (rowsAt_some c outM (View.set_whole _) _); iexact HrO
  isplitl [HrH]; · iapply (rowsAt_some c HM (View.set_whole _) _); iexact HrH
  isplitl [HrC]; · iapply (rowsAt_some c CM (View.set_whole _) _); iexact HrC
  isplitl [HS0]; · iapply (slots_split (F := F) c xbM (View.set_whole _)); iexact HS0
  isplitl [HS1]; · iapply (slots_split (F := F) c hbM (View.set_whole _)); iexact HS1
  isplitl [HS2]; · iapply (slots_split (F := F) c cbM (View.set_whole _)); iexact HS2
  isplitl [HS3]; · iapply (slots_split (F := F) c obM (View.set_whole _)); iexact HS3
  isplitl [HS4]; · iapply (slots_split (F := F) c HbM (View.set_whole _)); iexact HS4
  isplitl [HS5]; · iapply (slots_split (F := F) c CbM (View.set_whole _)); iexact HS5
  isplitl [HC]; · iexact HC
  iintro ⟨HP, HB, Hx, Hh, Hc, HrO, HrH, HrC, HS0, HS1, HS2, HS3, HS4, HS5, HC, ⟨%W', HW'⟩⟩
  isplitl [Hg Hx Hh Hc HrO HrH HrC HS0 HS1 HS2 HS3 HS4 HS5 HC]
  · isplitl [HS0 HS1 HS2 HS3 HS4 HS5]
    · isplitl [HS0]; · iapply (slots_join (F := F) c xbM (View.set_whole _)); iexact HS0
      isplitl [HS1]; · iapply (slots_join (F := F) c hbM (View.set_whole _)); iexact HS1
      isplitl [HS2]; · iapply (slots_join (F := F) c cbM (View.set_whole _)); iexact HS2
      isplitl [HS3]; · iapply (slots_join (F := F) c obM (View.set_whole _)); iexact HS3
      isplitl [HS4]; · iapply (slots_join (F := F) c HbM (View.set_whole _)); iexact HS4
      iapply (slots_join (F := F) c CbM (View.set_whole _)); iexact HS5
    isplitl [Hg]; · iexact Hg
    isplitl [HC]; · iexact HC
    isplitl [Hx Hh Hc]
    · isplitl [Hx]; · iapply (ent (rowsAt_eq c xM (View.set_whole _) _).symm); iexact Hx
      isplitl [Hh]; · iapply (ent (rowsAt_eq c hM (View.set_whole _) _).symm); iexact Hh
      iapply (ent (rowsAt_eq c cM (View.set_whole _) _).symm); iexact Hc
    isplitl [HrO]
    · iapply (result_whole c outM (View.set_whole _) (fun x h cc => valO x h cc (packed m c) (scal m c)) _ _ _ _ (G_O m c)); iexact HrO
    isplitl [HrH]
    · iapply (result_whole c HM (View.set_whole _) (fun x h cc => valH x h cc (packed m c)) _ _ _ _ (G_H m c)); iexact HrH
    iapply (result_whole c CM (View.set_whole _) (fun x h cc => valC x h cc (packed m c)) _ _ _ _ (G_C m c)); iexact HrC
  isplitl [HW']
  · iexists W'; isplitr; · ipureintro; exact fun _ _ => Or.inl trivial
    iexact HW'
  isplitl [HP]; · iapply (ent (st0_packed m c t).symm); iexact HP
  iapply (ent (st1_scal m c t).symm); iexact HB

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run, the frame and the results -/

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := fun _ => .rfl) (hout := fun _ => .rfl)

/-- An argument the call finds as launched and nothing writes ends as launched. -/
theorem kept {r : PUnit × MemSt nD τ sig (Elt F)} (h : Pipeline.FramePostRG cfgs (dats m) 0 R0 (V m) (G m) r) (c : Dev nD) (b : Ref sig .tc)
    (hb : b ∈ Pipeline.restRefs sig spec0 \ R0) (hV : V m c b = m ((c : Thread nD τ).loc b)) :
    r.2.mem ((c.tc : Thread nD τ).loc b) = m ((c.tc : Thread nD τ).loc b) :=
  ((h.1 c).2 b hb).trans hV

theorem args_kept {r : PUnit × MemSt nD τ sig (Elt F)} (h : Pipeline.FramePostRG cfgs (dats m) 0 R0 (V m) (G m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  ⟨kept m h c main_arg0 (Finset.mem_sdiff.mpr ⟨Pipeline.mem_restRefs_of main_arg0 (by decide) (by decide), by decide⟩) (V_main_arg0 m c),
    kept m h c main_arg1 (Finset.mem_sdiff.mpr ⟨Pipeline.mem_restRefs_of main_arg1 (by decide) (by decide), by decide⟩) (V_main_arg1 m c),
    kept m h c main_arg2 (Finset.mem_sdiff.mpr ⟨Pipeline.mem_restRefs_of main_arg2 (by decide) (by decide), by decide⟩) (V_main_arg2 m c),
    kept m h c main_arg3 (Finset.mem_sdiff.mpr ⟨Pipeline.mem_restRefs_of main_arg3 (by decide) (by decide), by decide⟩) (V_main_arg3 m c),
    kept m h c main_arg4 (Finset.mem_sdiff.mpr ⟨Pipeline.mem_restRefs_of main_arg4 (by decide) (by decide), by decide⟩) (V_main_arg4 m c),
    kept m h c main_arg5 (Finset.mem_sdiff.mpr ⟨Pipeline.mem_restRefs_of main_arg5 (by decide) (by decide), by decide⟩) (V_main_arg5 m c),
    kept m h c main_arg6 (Finset.mem_sdiff.mpr ⟨Pipeline.mem_restRefs_of main_arg6 (by decide) (by decide), by decide⟩) (V_main_arg6 m c),
    kept m h c main_arg7 (Finset.mem_sdiff.mpr ⟨Pipeline.mem_restRefs_of main_arg7 (by decide) (by decide), by decide⟩) (V_main_arg7 m c),
    kept m h c main_arg8 (Finset.mem_sdiff.mpr ⟨Pipeline.mem_restRefs_of main_arg8 (by decide) (by decide), by decide⟩) (V_main_arg8 m c),
    kept m h c main_arg9 (Finset.mem_sdiff.mpr ⟨Pipeline.mem_restRefs_of main_arg9 (by decide) (by decide), by decide⟩) (V_main_arg9 m c),
    kept m h c main_arg10 (Finset.mem_sdiff.mpr ⟨Pipeline.mem_restRefs_of main_arg10 (by decide) (by decide), by decide⟩) (V_main_arg10 m c),
    kept m h c main_arg11 (Finset.mem_sdiff.mpr ⟨Pipeline.mem_restRefs_of main_arg11 (by decide) (by decide), by decide⟩) (V_main_arg11 m c),
    kept m h c main_arg12 (Finset.mem_sdiff.mpr ⟨Pipeline.mem_restRefs_of main_arg12 (by decide) (by decide), by decide⟩) (V_main_arg12 m c),
    kept m h c main_arg13 (Finset.mem_sdiff.mpr ⟨Pipeline.mem_restRefs_of main_arg13 (by decide) (by decide), by decide⟩) (V_main_arg13 m c),
    kept m h c main_arg14 (Finset.mem_sdiff.mpr ⟨Pipeline.mem_restRefs_of main_arg14 (by decide) (by decide), by decide⟩) (V_main_arg14 m c),
    kept m h c main_arg15 (Finset.mem_sdiff.mpr ⟨Pipeline.mem_restRefs_of main_arg15 (by decide) (by decide), by decide⟩) (V_main_arg15 m c),
    kept m h c main_arg16 (Finset.mem_sdiff.mpr ⟨Pipeline.mem_restRefs_of main_arg16 (by decide) (by decide), by decide⟩) (V_main_arg16 m c),
    kept m h c main_arg17 (Finset.mem_sdiff.mpr ⟨Pipeline.mem_restRefs_of main_arg17 (by decide) (by decide), by decide⟩) (V_main_arg17 m c),
    kept m h c main_arg18 (Finset.mem_sdiff.mpr ⟨Pipeline.mem_restRefs_of main_arg18 (by decide) (by decide), by decide⟩) (V_main_arg18 m c),
    kept m h c main_arg19 (Finset.mem_sdiff.mpr ⟨Pipeline.mem_restRefs_of main_arg19 (by decide) (by decide), by decide⟩) (V_main_arg19 m c),
    kept m h c main_arg20 (Finset.mem_sdiff.mpr ⟨Pipeline.mem_restRefs_of main_arg20 (by decide) (by decide), by decide⟩) (V_main_arg20 m c),
    kept m h c main_arg21 (Finset.mem_sdiff.mpr ⟨Pipeline.mem_restRefs_of main_arg21 (by decide) (by decide), by decide⟩) (V_main_arg21 m c),
    kept m h c main_arg22 (Finset.mem_sdiff.mpr ⟨Pipeline.mem_restRefs_of main_arg22 (by decide) (by decide), by decide⟩) (V_main_arg22 m c),
    kept m h c main_arg23 (Finset.mem_sdiff.mpr ⟨Pipeline.mem_restRefs_of main_arg23 (by decide) (by decide), by decide⟩) (V_main_arg23 m c),
    kept m h c main_arg24 (Finset.mem_sdiff.mpr ⟨Pipeline.mem_restRefs_of main_arg24 (by decide) (by decide), by decide⟩) (V_main_arg24 m c),
    kept m h c main_arg25 (Finset.mem_sdiff.mpr ⟨Pipeline.mem_restRefs_of main_arg25 (by decide) (by decide), by decide⟩) (V_main_arg25 m c)⟩

/-- Every run returns with the arguments unchanged and every counter at zero. -/
theorem frame_claim : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25))
      ∧ r.2.sem = fun _ => 0) :=
  (θ_run defs _ _).mono (fun _ h => ⟨fun c => args_kept m h.1 c, h.2⟩) (run_main m ρ)

end Cert.KernelIdeal.Cell

end
-- ==== Proof.KernelFrame.lean ====
module

public import proofs.«01_k».proof.Defs
public import proofs.«01_k».proof.Proof.IdealLaunch
public import proofs.«01_k».proof.Proof.Gen.Kernel

/-! # The frame of the bit-exact module

The module at the bit-exact instance and the idealized one are the same program, printed twice: no operation was rewritten.
The run of `IdealLaunch` is proved for every float instance, so the frame of the first is that of the second. -/

@[expose] public section

noncomputable section

namespace Cert.Kernel.Cell

open Idealize.ShloMosaic

attribute [local instance] Cert.Kernel.Gen.facts Cert.KernelIdeal.Gen.facts

variable {F : FTy → Type} [FloatOps F]

/-- Both print the same kernel body at the one label. -/
theorem same_defs₀ : Cert.Kernel.defs₀ (F := F) = Cert.KernelIdeal.defs₀ (F := F) := by
  unfold Cert.Kernel.defs₀ Cert.KernelIdeal.defs₀
  refine congrArg Defs.onTc (funext fun l => ?_)
  match l with
  | 0 => rfl

/-- Both print the same body table. -/
theorem same_defs : Cert.Kernel.defs (F := F) = Cert.KernelIdeal.defs (F := F) := by
  unfold Cert.Kernel.defs Cert.KernelIdeal.defs
  rw [same_defs₀]
  rfl

/-- Both print the same host program. -/
theorem same_main : Cert.Kernel.main (F := F) = Cert.KernelIdeal.main (F := F) := rfl

/-- Every run of the bit-exact module returns with the arguments unchanged and every counter at zero. -/
theorem frame_claim : Cert.quiescent_Kernel := by
  intro m g _
  rw [same_defs, same_main]
  exact Cert.KernelIdeal.Cell.frame_claim m g

end Cert.Kernel.Cell

end
-- ==== Proof.RowSpec.lean ====
module

public import Idealize.ShloMosaic.Lib.Pointwise

/-! # One row of the cell

The recurrent cell acts on each row alone. These are its formulas at one row over the extended reals: `xr`, `hr` and `cr` are the
row's features, hidden state and cell state, a `Gate` holds the weights of one gate. Both programs are proved to compute them. -/

@[expose] public section

noncomputable section

namespace Cert.Cell

open Idealize.ShloMosaic

/-- One gate: the weights of the features and of the hidden state, the sum of its two biases, the weight of the cell state. -/
@[ext] structure Gate where
  A : Fin 128 → Fin 64 → EReal
  T : Fin 64 → Fin 64 → EReal
  b : Fin 64 → EReal
  w : Fin 64 → EReal

/-- The gate of given weights. -/
def Gate.of (A : (⟨2, ![128, 64]⟩ : Shape).Idx → EReal) (T : (⟨2, ![64, 64]⟩ : Shape).Idx → EReal) (h : (⟨1, ![64]⟩ : Shape).Idx → EReal)
    (b w : (⟨2, ![1, 64]⟩ : Shape).Idx → EReal) : Gate where
  A k j := A (ix2 k j)
  T k j := T (ix2 k j)
  b j := h (ix1 j) + b (ix2 0 j)
  w j := w (ix2 0 j)

/-- The gate before the cell state enters. -/
def Gate.pre (g : Gate) (xr : Fin 128 → EReal) (hr : Fin 64 → EReal) (j : Fin 64) : EReal :=
  ((∑ k, xr k * g.A k j) + ∑ k, hr k * g.T k j) + g.b j

/-- The gate opened by the cell state `cr`. -/
def Gate.act (g : Gate) (xr : Fin 128 → EReal) (hr cr : Fin 64 → EReal) (j : Fin 64) : EReal :=
  Ideal.logistic (g.pre xr hr j + g.w j * cr j)

/-- The new cell state of the row: what the forget gate keeps and what the input gate lets in of the candidate. -/
def rowC (gi gf gc : Gate) (xr : Fin 128 → EReal) (hr cr : Fin 64 → EReal) (j : Fin 64) : EReal :=
  gf.act xr hr cr j * cr j + gi.act xr hr cr j * Ideal.tanh (gc.pre xr hr j)

/-- The new hidden state of the row; the output gate sees the new cell state. -/
def rowH (gi gf gc go : Gate) (xr : Fin 128 → EReal) (hr cr : Fin 64 → EReal) (j : Fin 64) : EReal :=
  go.act xr hr (rowC gi gf gc xr hr cr) j * Ideal.tanh (rowC gi gf gc xr hr cr j)

/-- The read-out of the row: the positive part of the new hidden state against `wf`, with the bias `bf`. -/
def rowO (gi gf gc go : Gate) (wf : Fin 64 → EReal) (bf : EReal) (xr : Fin 128 → EReal) (hr cr : Fin 64 → EReal) : EReal :=
  (∑ j, max (rowH gi gf gc go xr hr cr j) 0 * wf j) + bf

end Cert.Cell

end
-- ==== Proof.IdealValue.lean ====
module

public import proofs.«01_k».proof.Proof.RowSpec
public import proofs.«01_k».proof.Proof.IdealRun

/-! # The kernel's block computation, row by row -/

@[expose] public section

noncomputable section

namespace Cert.KernelIdeal.Cell

open Cert.KernelIdeal Cert.KernelIdeal.Gen Cert.Cell
open Idealize.ShloMosaic

/-- Gate `g` of the packed weights. -/
def packGate (P : S200x256.Idx → EReal) (g w : Fin 4) : Gate where
  A k j := P (ix2 ⟨k.val, by omega⟩ ⟨64 * g.val + j.val, by omega⟩)
  T k j := P (ix2 ⟨128 + k.val, by omega⟩ ⟨64 * g.val + j.val, by omega⟩)
  b j := P (ix2 ⟨192, by omega⟩ ⟨64 * g.val + j.val, by omega⟩)
  w j := P (ix2 ⟨193, by omega⟩ ⟨64 * w.val + j.val, by omega⟩)

/-! Where each part of the packed array is read. -/

theorem packW_at (P : S200x256.Idx → Elt Ideal .f32) (k : Fin 128) (j : Fin 256) : packW P (ix2 k j) = P (ix2 ⟨k.val, by omega⟩ j) := by
  refine congrArg P (funext fun a => Fin.ext ?_)
  match a with
  | ⟨0, _⟩ => show 0 + 1 * k.val = k.val; omega
  | ⟨1, _⟩ => show 0 + 1 * j.val = j.val; omega
theorem packT_at (P : S200x256.Idx → Elt Ideal .f32) (k : Fin 64) (j : Fin 256) : packT P (ix2 k j) = P (ix2 ⟨128 + k.val, by omega⟩ j) := by
  refine congrArg P (funext fun a => Fin.ext ?_)
  match a with
  | ⟨0, _⟩ => show 128 + 1 * k.val = 128 + k.val; omega
  | ⟨1, _⟩ => show 0 + 1 * j.val = j.val; omega
theorem packB_at (P : S200x256.Idx → Elt Ideal .f32) (k : Fin 1) (j : Fin 256) : packB P (ix2 k j) = P (ix2 ⟨192 + k.val, by omega⟩ j) := by
  refine congrArg P (funext fun a => Fin.ext ?_)
  match a with
  | ⟨0, _⟩ => show 192 + 1 * k.val = 192 + k.val; omega
  | ⟨1, _⟩ => show 0 + 1 * j.val = j.val; omega
theorem packV_at (P : S200x256.Idx → Elt Ideal .f32) (k : Fin 1) (j : Fin 256) : packV P (ix2 k j) = P (ix2 ⟨193 + k.val, by omega⟩ j) := by
  refine congrArg P (funext fun a => Fin.ext ?_)
  match a with
  | ⟨0, _⟩ => show 193 + 1 * k.val = 193 + k.val; omega
  | ⟨1, _⟩ => show 0 + 1 * j.val = j.val; omega
theorem scalB_at (b : S1x1.Idx → Elt Ideal .f32) (i : Fin 1) (j : Fin 1) : scalB b (ix2 i j) = b (ix2 i j) := by
  refine congrArg b (funext fun a => Fin.ext ?_)
  match a with
  | ⟨0, _⟩ => show 0 + 1 * i.val = i.val; omega
  | ⟨1, _⟩ => show 0 + 1 * j.val = j.val; omega

variable (x : S2000x128.Idx → Elt Ideal .f32) (h c : S2000x64.Idx → Elt Ideal .f32) (P : S200x256.Idx → Elt Ideal .f32)
  (b : S1x1.Idx → Elt Ideal .f32) (r : Fin 2000)

/-- Column `64 * g + j` of the two products and the bias is gate `g` before the cell state enters. -/
theorem pay2_row (g w : Fin 4) (j : Fin 64) (i : Fin 256) (hi : i.val = 64 * g.val + j.val) :
    k0_pay2 (up128 x) (up64 h) (packW P) (packT P) (packB P) (ix2 r i)
      = (packGate P g w).pre (fun k => x (ix2 r k)) (fun k => h (ix2 r k)) j := by
  have hlt : 64 * g.val + j.val < 256 := by omega
  obtain rfl : i = ⟨64 * g.val + j.val, hlt⟩ := Fin.ext hi
  pointwise [k0_pay2]
  exact congrArg₂ (· + ·) (congrArg₂ (· + ·)
    (Finset.sum_congr rfl fun k _ => congrArg (x (ix2 r k) * ·) (packW_at P k _))
    (Finset.sum_congr rfl fun k _ => congrArg (h (ix2 r k) * ·) (packT_at P k _))) (packB_at P 0 _)

theorem packV_gate (g w : Fin 4) (j : Fin 64) (i : Fin 256) (hi : i.val = 64 * w.val + j.val) :
    packV P (ix2 0 i) = (packGate P g w).w j := by
  have hlt : 64 * w.val + j.val < 256 := by omega
  obtain rfl : i = ⟨64 * w.val + j.val, hlt⟩ := Fin.ext hi
  exact packV_at P 0 _

/-- The block's new cell state at its row `r`. -/
theorem valC_row (j : Fin 64) :
    valC x h c P (ix2 r j)
      = rowC (packGate P 0 0) (packGate P 1 1) (packGate P 2 0) (fun k => x (ix2 r k)) (fun k => h (ix2 r k)) (fun k => c (ix2 r k)) j := by
  pointwise [valC, cellC, k0_pay4, k0_pay3, k0_pay1]
  rw [pay2_row x h P r 1 1 j _ rfl, pay2_row x h P r 0 0 j _ (by simp), pay2_row x h P r 2 0 j _ rfl,
    packV_gate P 1 1 j _ rfl, packV_gate P 0 0 j _ (by simp)]
  rfl

/-- The block's new hidden state at its row `r`. -/
theorem valH_row (j : Fin 64) :
    valH x h c P (ix2 r j)
      = rowH (packGate P 0 0) (packGate P 1 1) (packGate P 2 0) (packGate P 3 2) (fun k => x (ix2 r k)) (fun k => h (ix2 r k)) (fun k => c (ix2 r k)) j := by
  have e := valC_row x h c P r j
  unfold valC cellC at e
  pointwise [valH, cellH, k0_pay5, k0_pay3]
  rw [pay2_row x h P r 3 2 j _ rfl, packV_gate P 3 2 j _ rfl, e]
  rfl

/-- The block's read-out at its row `r`. -/
theorem valO_row (j : Fin 1) :
    valO x h c P b (ix2 r j)
      = rowO (packGate P 0 0) (packGate P 1 1) (packGate P 2 0) (packGate P 3 2) (packGate P 3 3).w (b (ix2 0 0)) (fun k => x (ix2 r k)) (fun k => h (ix2 r k)) (fun k => c (ix2 r k)) := by
  have e := valH_row x h c P r
  unfold valH cellH at e
  pointwise [valO, cellO, k0_pay8, k0_pay3]
  simp only [e]
  rw [scalB_at]
  unfold rowO
  refine congrArg (· + b (ix2 0 0)) (Finset.sum_congr rfl fun k _ => ?_)
  rw [packV_gate P 3 3 k _ rfl]

end Cert.KernelIdeal.Cell

end
-- ==== Proof.IdealPack.lean ====
module

public import proofs.«01_k».proof.Proof.IdealValue
public import proofs.«01_k».proof.Proof.Gen.KernelIdeal.Frame
public import Idealize.ShloMosaic.Lib.StableHlo.Run
public import Idealize.ShloMosaic.Lib.Claim

/-! # The packed weights, entry by entry -/

@[expose] public section

noncomputable section

namespace Cert.KernelIdeal.Cell

open Cert.KernelIdeal Cert.KernelIdeal.Gen Cert.Cell
open Idealize.ShloMosaic Idealize.ShloMosaic.TcCoe Idealize.ShloMosaic.StableHlo

section Pack

variable (W0 W1 W2 W3 : FVec Ideal S128x64 .f32) (T0 T1 T2 T3 : FVec Ideal S64x64 .f32) (h0 h1 h2 h3 : FVec Ideal S64 .f32)
  (b0 b1 b2 b3 : FVec Ideal S1x64 .f32) (w0 w1 w2 : FVec Ideal S1x64 .f32) (fc : FVec Ideal S64x1 .f32)

/-- The four stacks of columns, and the whole packed array. -/
def catW : FVec Ideal S128x256 .f32 := concatenate S128x256 1 [⟨S128x64, W0⟩, ⟨S128x64, W1⟩, ⟨S128x64, W2⟩, ⟨S128x64, W3⟩] concatenates_S128x64_S128x64_S128x64_S128x64_S128x256_d1
def catT : FVec Ideal S64x256 .f32 := concatenate S64x256 1 [⟨S64x64, T0⟩, ⟨S64x64, T1⟩, ⟨S64x64, T2⟩, ⟨S64x64, T3⟩] concatenates_S64x64_S64x64_S64x64_S64x64_S64x256_d1
def catB : FVec Ideal S1x256 .f32 := concatenate S1x256 1 [⟨S1x64, addf (broadcastInDim S1x64 ![1] bcast_S64_S1x64_1 h0) b0⟩, ⟨S1x64, addf (broadcastInDim S1x64 ![1] bcast_S64_S1x64_1 h1) b1⟩, ⟨S1x64, addf (broadcastInDim S1x64 ![1] bcast_S64_S1x64_1 h2) b2⟩, ⟨S1x64, addf (broadcastInDim S1x64 ![1] bcast_S64_S1x64_1 h3) b3⟩] concatenates_S1x64_S1x64_S1x64_S1x64_S1x256_d1
def catV : FVec Ideal S1x256 .f32 := concatenate S1x256 1 [⟨S1x64, w0⟩, ⟨S1x64, w1⟩, ⟨S1x64, w2⟩, ⟨S1x64, shapeCast S1x64 fc shapeCasts_S64x1_S1x64⟩] concatenates_S1x64_S1x64_S1x64_S1x64_S1x256_d1
def catP (W : FVec Ideal S128x256 .f32) (T : FVec Ideal S64x256 .f32) (B V : FVec Ideal S1x256 .f32) (Z : FVec Ideal S6x256 .f32) : FVec Ideal S200x256 .f32 :=
  concatenate S200x256 0 [⟨S128x256, W⟩, ⟨S64x256, T⟩, ⟨S1x256, B⟩, ⟨S1x256, V⟩, ⟨S6x256, Z⟩]
    concatenates_S128x256_S64x256_S1x256_S1x256_S6x256_S200x256_d0

/-- Column `64 * g + j` of four pieces of 64 columns side by side is column `j` of piece `g`. -/
theorem cols_at {n : ℕ} (p0 p1 p2 p3 : FVec Ideal ⟨2, ![n, 64]⟩ .f32)
    (h : Shape.Concatenates [⟨2, ![n, 64]⟩, ⟨2, ![n, 64]⟩, ⟨2, ![n, 64]⟩, ⟨2, ![n, 64]⟩] ⟨2, ![n, 256]⟩ 1) (k : Fin n) (g : Fin 4) (j : Fin 64) :
    concatenate ⟨2, ![n, 256]⟩ 1 [⟨⟨2, ![n, 64]⟩, p0⟩, ⟨⟨2, ![n, 64]⟩, p1⟩, ⟨⟨2, ![n, 64]⟩, p2⟩, ⟨⟨2, ![n, 64]⟩, p3⟩] h (ix2 k ⟨64 * g.val + j.val, by omega⟩)
      = (![p0, p1, p2, p3] g) (ix2 k j) := by
  pointwise
  have e : ∀ v (hv : v = j.val) (H : ∀ b : Fin 2, (if b.val = 1 then v else (ix2 k (⟨64 * g.val + j.val, by omega⟩ : Fin 256) b).val) < (![n, 64] : Fin 2 → ℕ) b),
      (Shape.Idx.norm fun b => ⟨if b.val = 1 then v else (ix2 k (⟨64 * g.val + j.val, by omega⟩ : Fin 256) b).val, H b⟩ : (⟨2, ![n, 64]⟩ : Shape).Idx) = ix2 k j := by
    rintro v rfl H
    funext b
    match b with
    | ⟨0, _⟩ => rfl
    | ⟨1, _⟩ => rfl
  have sel : ∀ a : Fin 4, g.val = a.val → (![p0, p1, p2, p3] a) (ix2 k j) = (![p0, p1, p2, p3] g) (ix2 k j) := by
    intro a ha; rw [show g = a from Fin.ext ha]
  rcases (by omega : g.val = 0 ∨ g.val = 1 ∨ g.val = 2 ∨ g.val = 3) with hg | hg | hg | hg
  · rw [dif_pos (by omega)]
    refine (congrArg p0 (e _ ?_ _)).trans (sel 0 hg)
    omega
  · rw [dif_neg (by omega), dif_pos (by omega)]
    refine (congrArg p1 (e _ ?_ _)).trans (sel 1 hg)
    omega
  · rw [dif_neg (by omega), dif_neg (by omega), dif_pos (by omega)]
    refine (congrArg p2 (e _ ?_ _)).trans (sel 2 hg)
    omega
  · rw [dif_neg (by omega), dif_neg (by omega), dif_neg (by omega)]
    refine (congrArg p3 (e _ ?_ _)).trans (sel 3 hg)
    omega

theorem catP_W (W T B V Z) (k : Fin 128) (i : Fin 256) : catP W T B V Z (ix2 ⟨k.val, by omega⟩ i) = W (ix2 k i) := by
  pointwise [catP]
theorem catP_T (W T B V Z) (k : Fin 64) (i : Fin 256) : catP W T B V Z (ix2 ⟨128 + k.val, by omega⟩ i) = T (ix2 k i) := by
  pointwise [catP]
theorem catP_V (W T B V Z) (i : Fin 256) : catP W T B V Z (ix2 ⟨193, by omega⟩ i) = V (ix2 0 i) := by
  pointwise [catP]
theorem catP_B (W T B V Z) (i : Fin 256) : catP W T B V Z (ix2 ⟨192, by omega⟩ i) = B (ix2 0 i) := by
  pointwise [catP]

/-- Gate `g` of the packed array, with the weight of the cell state at place `w`, is the gate of the arguments packed there. -/
theorem packGate_of (Z g w) : packGate (catP (catW W0 W1 W2 W3) (catT T0 T1 T2 T3) (catB h0 h1 h2 h3 b0 b1 b2 b3) (catV w0 w1 w2 fc) Z) g w
    = Gate.of (![W0, W1, W2, W3] g) (![T0, T1, T2, T3] g) (![h0, h1, h2, h3] g) (![b0, b1, b2, b3] g)
        (![w0, w1, w2, shapeCast S1x64 fc shapeCasts_S64x1_S1x64] w) := by
  refine Gate.ext (funext fun k => funext fun j => ?_) (funext fun k => funext fun j => ?_) (funext fun j => ?_) (funext fun j => ?_)
  · exact (catP_W _ _ _ _ _ k _).trans (cols_at W0 W1 W2 W3 _ k g j)
  · exact (catP_T _ _ _ _ _ k _).trans (cols_at T0 T1 T2 T3 _ k g j)
  · refine (catP_B (catW W0 W1 W2 W3) (catT T0 T1 T2 T3) (catB h0 h1 h2 h3 b0 b1 b2 b3) (catV w0 w1 w2 fc) Z ⟨64 * g.val + j.val, by omega⟩).trans ?_
    unfold catB
    refine (cols_at _ _ _ _ _ 0 g j).trans ?_
    have hrow : ∀ (h : FVec Ideal S64 .f32) (b : FVec Ideal S1x64 .f32), addf (broadcastInDim S1x64 ![1] bcast_S64_S1x64_1 h) b (ix2 0 j) = h (ix1 j) + b (ix2 0 j) := by
      intro h b; pointwise
    match g with
    | ⟨0, _⟩ => exact hrow h0 b0
    | ⟨1, _⟩ => exact hrow h1 b1
    | ⟨2, _⟩ => exact hrow h2 b2
    | ⟨3, _⟩ => exact hrow h3 b3
  · refine (catP_V (catW W0 W1 W2 W3) (catT T0 T1 T2 T3) (catB h0 h1 h2 h3 b0 b1 b2 b3) (catV w0 w1 w2 fc) Z ⟨64 * w.val + j.val, by omega⟩).trans ?_
    unfold catV
    exact cols_at w0 w1 w2 _ _ 0 w j

theorem fc_row (j : Fin 64) : shapeCast S1x64 fc shapeCasts_S64x1_S1x64 (ix2 0 j) = fc (ix2 j 0) := by
  pointwise

end Pack

variable (m : (ℓ : Loc nD τ sig) → Buf (Elt Ideal) ℓ) (c : Dev nD)

/-- The last packing step, its five pieces read by name. -/
theorem pieces5 (G : Valuation τ sig (Elt Ideal)) (f hx hy) (hf : f = fun u => (concatenate S200x256 0 [⟨S128x256, (u 0 : (⟨S128x256, .f32⟩ : BufTy).Contents (Elt Ideal))⟩, ⟨S64x256, (u 1 : (⟨S64x256, .f32⟩ : BufTy).Contents (Elt Ideal))⟩, ⟨S1x256, (u 2 : (⟨S1x256, .f32⟩ : BufTy).Contents (Elt Ideal))⟩, ⟨S1x256, (u 3 : (⟨S1x256, .f32⟩ : BufTy).Contents (Elt Ideal))⟩, ⟨S6x256, (u 4 : (⟨S6x256, .f32⟩ : BufTy).Contents (Elt Ideal))⟩]
    concatenates_S128x256_S64x256_S1x256_S1x256_S6x256_S200x256_d0 : (⟨S200x256, .f32⟩ : BufTy).Contents (Elt Ideal))) :
    (nary (τ := τ) ![main_v0, main_v1, main_v10, main_v12, main_v13] main_v14 f hx hy).result G (Proc.devRef .tc main_v14)
      = catP (G (Proc.devRef .tc main_v0)) (G (Proc.devRef .tc main_v1)) (G (Proc.devRef .tc main_v10)) (G (Proc.devRef .tc main_v12)) (G (Proc.devRef .tc main_v13)) := by
  rw [nary_result, hf]; rfl

/-- The packed array as found by the kernel call, of its pieces as found. -/
theorem V_pieces : V m c main_v14 = catP (V m c main_v0) (V m c main_v1) (V m c main_v10) (V m c main_v12) (V m c main_v13) := by
  unfold V hostOps0
  simp only [after_cons, after_nil]
  rw [reshape_result_ne]; rotate_left; decide
  refine (pieces5 _ _ _ _ rfl).trans ?_
  simp (disch := decide) only [reshape_result_ne', nary_result_ne']

theorem V_W : V m c main_v0 = catW (m ((c : Thread nD τ).loc main_arg5)) (m ((c : Thread nD τ).loc main_arg6)) (m ((c : Thread nD τ).loc main_arg7)) (m ((c : Thread nD τ).loc main_arg8)) := by
  unfold V hostOps0
  after_results
  rfl
theorem V_T : V m c main_v1 = catT (m ((c : Thread nD τ).loc main_arg9)) (m ((c : Thread nD τ).loc main_arg11)) (m ((c : Thread nD τ).loc main_arg13)) (m ((c : Thread nD τ).loc main_arg15)) := by
  unfold V hostOps0
  after_results
  rfl
theorem V_B : V m c main_v10 = catB (m ((c : Thread nD τ).loc main_arg10)) (m ((c : Thread nD τ).loc main_arg12)) (m ((c : Thread nD τ).loc main_arg14)) (m ((c : Thread nD τ).loc main_arg16))
      (m ((c : Thread nD τ).loc main_arg20)) (m ((c : Thread nD τ).loc main_arg21)) (m ((c : Thread nD τ).loc main_arg22)) (m ((c : Thread nD τ).loc main_arg23)) := by
  unfold V hostOps0
  after_results
  rfl
theorem V_V : V m c main_v12 = catV (m ((c : Thread nD τ).loc main_arg17)) (m ((c : Thread nD τ).loc main_arg18)) (m ((c : Thread nD τ).loc main_arg19)) (m ((c : Thread nD τ).loc main_arg24)) := by
  unfold V hostOps0
  after_results
  rfl

theorem scal_at : (V m c main_v15 : S1x1.Idx → EReal) (ix2 0 0) = (m ((c : Thread nD τ).loc main_arg25) : S1.Idx → EReal) (ix1 0) := by
  entry_read
  pointwise

end Cert.KernelIdeal.Cell

end
-- ==== Proof.Equation.lean ====
module

public import proofs.«01_k».proof.Proof.IdealValue
public import proofs.«01_k».proof.Proof.IdealPack
public import proofs.«01_k».proof.Proof.IdealLaunch

/-! # The kernel's results, row by row

A row of a result lies in one block; the block's value there is the row formula of `RowSpec` at the packed weights, and the
packed weights are the argument arrays put side by side. -/

@[expose] public section

noncomputable section

namespace Cert.KernelIdeal.Cell

open Cert.KernelIdeal Cert.KernelIdeal.Gen Cert.Cell
open Idealize.ShloMosaic Idealize.ShloMosaic.TcCoe

/-- A row of the block it lies in is that row of the array. -/
theorem blk_row {n : ℕ} {α : Type} (f : (Full n).Idx → α) (i : Fin 10000) (j : Fin n) (k : Fin n) :
    blk (blkNo (ix2 i j : (Full n).Idx)) f (ix2 ⟨i.val % 2000, Nat.mod_lt _ (by omega)⟩ k) = f (ix2 i k) := by
  refine congrArg f ?_
  have := Nat.div_add_mod i.val 2000
  exact congrArg (fun r : Fin 10000 => (ix2 r k : (Full n).Idx)) (Fin.ext this)

section Rows

variable (x : FVec Ideal S10000x128 .f32) (h cc : FVec Ideal S10000x64 .f32) (P : FVec Ideal S200x256 .f32) (b : FVec Ideal S1x1 .f32)

/-- The block of row `i`, whatever the width of the array. -/
abbrev rowBlk (i : Fin 10000) : Fin 5 := ⟨i.val / 2000, by omega⟩
abbrev rowIn (i : Fin 10000) : Fin 2000 := ⟨i.val % 2000, Nat.mod_lt _ (by omega)⟩

theorem at_row {n : ℕ} {α : Type} (f : (Full n).Idx → α) (i : Fin 10000) : (fun k : Fin n => blk (rowBlk i) f (ix2 (rowIn i) k)) = fun k => f (ix2 i k) :=
  funext fun k => blk_row f i k k

theorem allC_row (i : Fin 10000) (j : Fin 64) : allC (F := Ideal) x h cc P (ix2 i j)
    = rowC (packGate P 0 0) (packGate P 1 1) (packGate P 2 0) (fun k => x (ix2 i k)) (fun k => h (ix2 i k)) (fun k => cc (ix2 i k)) j := by
  refine (valC_row (blk (rowBlk i) x) (blk (rowBlk i) h) (blk (rowBlk i) cc) P (rowIn i) j).trans ?_
  rw [at_row, at_row, at_row]
theorem allH_row (i : Fin 10000) (j : Fin 64) : allH (F := Ideal) x h cc P (ix2 i j)
    = rowH (packGate P 0 0) (packGate P 1 1) (packGate P 2 0) (packGate P 3 2) (fun k => x (ix2 i k)) (fun k => h (ix2 i k)) (fun k => cc (ix2 i k)) j := by
  refine (valH_row (blk (rowBlk i) x) (blk (rowBlk i) h) (blk (rowBlk i) cc) P (rowIn i) j).trans ?_
  rw [at_row, at_row, at_row]
theorem allO_row (i : Fin 10000) (j : Fin 1) : allO (F := Ideal) x h cc P b (ix2 i j)
    = rowO (packGate P 0 0) (packGate P 1 1) (packGate P 2 0) (packGate P 3 2) (packGate P 3 3).w (b (ix2 0 0))
        (fun k => x (ix2 i k)) (fun k => h (ix2 i k)) (fun k => cc (ix2 i k)) := by
  refine (valO_row (blk (rowBlk i) x) (blk (rowBlk i) h) (blk (rowBlk i) cc) P b (rowIn i) j).trans ?_
  rw [at_row, at_row, at_row]

end Rows

/-! ## At the arguments -/

variable (m : (ℓ : Loc nD τ sig) → Buf (Elt Ideal) ℓ) (c : Dev nD)

/-- The gates of the packed array, as the kernel call finds it, are those of the arguments. -/
theorem gates (g w : Fin 4) : packGate (packed m c) g w
    = Gate.of (![m ((c : Thread nD τ).loc main_arg5), m ((c : Thread nD τ).loc main_arg6), m ((c : Thread nD τ).loc main_arg7), m ((c : Thread nD τ).loc main_arg8)] g)
        (![m ((c : Thread nD τ).loc main_arg9), m ((c : Thread nD τ).loc main_arg11), m ((c : Thread nD τ).loc main_arg13), m ((c : Thread nD τ).loc main_arg15)] g)
        (![m ((c : Thread nD τ).loc main_arg10), m ((c : Thread nD τ).loc main_arg12), m ((c : Thread nD τ).loc main_arg14), m ((c : Thread nD τ).loc main_arg16)] g)
        (![m ((c : Thread nD τ).loc main_arg20), m ((c : Thread nD τ).loc main_arg21), m ((c : Thread nD τ).loc main_arg22), m ((c : Thread nD τ).loc main_arg23)] g)
        (![m ((c : Thread nD τ).loc main_arg17), m ((c : Thread nD τ).loc main_arg18), m ((c : Thread nD τ).loc main_arg19),
          shapeCast S1x64 (m ((c : Thread nD τ).loc main_arg24)) shapeCasts_S64x1_S1x64] w) := by
  show packGate (V m c main_v14) g w = _
  rw [V_pieces, V_W, V_T, V_B, V_V]
  exact packGate_of _ _ _ _ _ _ _ _ _ _ _ _ _ _ _ _ _ _ _ _ _ g w

/-- The weights of the read-out are the last row of the packed cell-state weights. -/
theorem readout : (packGate (packed m c) 3 3).w = fun k => (m ((c : Thread nD τ).loc main_arg24) : FVec Ideal S64x1 .f32) (ix2 k 0) := by
  rw [gates]
  exact funext fun k => fc_row _ k

end Cert.KernelIdeal.Cell

end
-- ==== Proof.RefValue.lean ====
module

public import proofs.«01_k».proof.Proof.RowSpec
public import proofs.«01_k».proof.Proof.Gen.ReferenceIdeal.Run

/-! # The reference, row by row

The reference's results are terms of whole arrays. The pieces that its gates share are named and read at one entry; its three
results are then the row formulas of `RowSpec` at its arguments. -/

@[expose] public section

noncomputable section

namespace Cert.ReferenceIdeal.Cell

open Cert.ReferenceIdeal Cert.ReferenceIdeal.Gen Cert.ReferenceIdeal.Value Cert.Cell
open Idealize.ShloMosaic Idealize.ShloMosaic.TcCoe

/-- The reference adds a gate's five terms in one order, the row formula in another. -/
theorem regroup (a t u p b : EReal) : a + (t + u) + p + b = a + t + (u + b) + p := by
  rw [add_right_comm _ p b, add_assoc a (t + u) b, add_assoc t u b, ← add_assoc a t]

section Terms

variable (x : FVec Ideal S10000x128 .f32) (h c : FVec Ideal S10000x64 .f32)
  (A : FVec Ideal S128x64 .f32) (T : FVec Ideal S64x64 .f32) (u : FVec Ideal S64 .f32) (b w : FVec Ideal S1x64 .f32)

/-- The two products of a gate with the bias of the second. -/
def lin : FVec Ideal S10000x64 .f32 :=
  addf (Host.dotGeneral dot_S10000x128_S128x64_S10000x64_1_0_0_1_n_n none x A)
    (addf (Host.dotGeneral dot_S10000x64_S64x64_S10000x64_1_0_0_1_n_n none h T)
      (broadcastInDim S10000x64 ![0, 1] bcast_S1x64_S10000x64_0_1 (broadcastInDim S1x64 ![1] bcast_S64_S1x64_1 u)))

/-- A gate that sees the cell state `c`, through `1 / (1 + exp (-z))`. -/
def opened : FVec Ideal S10000x64 .f32 :=
  Host.divf (broadcastInDim S10000x64 ![] bcast_S_S10000x64 (constant S_ .f32 0x3F800000#32))
    (addf (broadcastInDim S10000x64 ![] bcast_S_S10000x64 (constant S_ .f32 0x3F800000#32))
      (Host.exp (Host.negf (addf (addf (lin x h A T u) (mulf (broadcastInDim S10000x64 ![0, 1] bcast_S1x64_S10000x64_0_1 w) c))
        (broadcastInDim S10000x64 ![0, 1] bcast_S1x64_S10000x64_0_1 b)))))

/-- The candidate for the new cell state. -/
def cand : FVec Ideal S10000x64 .f32 :=
  Host.tanh (addf (lin x h A T u) (broadcastInDim S10000x64 ![0, 1] bcast_S1x64_S10000x64_0_1 b))

theorem opened_at (i : Fin 10000) (j : Fin 64) :
    opened x h c A T u b w (ix2 i j)
      = (Gate.of A T u b w).act (fun k => x (ix2 i k)) (fun k => h (ix2 i k)) (fun k => c (ix2 i k)) j := by
  pointwise [opened, lin]
  unfold Gate.act Ideal.logistic
  exact congrArg (fun z => Ideal.div 1 (1 + Ideal.exp (-z))) (regroup _ _ _ _ _)

theorem cand_at (i : Fin 10000) (j : Fin 64) :
    cand x h A T u b (ix2 i j) = Ideal.tanh ((Gate.of A T u b w).pre (fun k => x (ix2 i k)) (fun k => h (ix2 i k)) j) := by
  pointwise [cand, lin]
  refine congrArg Ideal.tanh ?_
  exact (add_assoc _ _ _).trans ((congrArg (_ + ·) (add_assoc _ _ _)).trans (add_assoc _ _ _).symm)

end Terms

/-! ## The three results -/

variable (m : (ℓ : Loc nD τ sig) → Buf (Elt Ideal) ℓ) (d : Dev nD)

abbrev ax : FVec Ideal S10000x128 .f32 := m ((d.tc : Thread nD τ).loc main_arg0)
abbrev ah : FVec Ideal S10000x64 .f32 := m ((d.tc : Thread nD τ).loc main_arg3)
abbrev ac : FVec Ideal S10000x64 .f32 := m ((d.tc : Thread nD τ).loc main_arg4)

/-- The four gates of the arguments; the candidate has no weight of the cell state, and none of its uses reads one. -/
def gateI : Gate := Gate.of (m ((d.tc : Thread nD τ).loc main_arg5)) (m ((d.tc : Thread nD τ).loc main_arg9)) (m ((d.tc : Thread nD τ).loc main_arg10))
  (m ((d.tc : Thread nD τ).loc main_arg20)) (m ((d.tc : Thread nD τ).loc main_arg17))
def gateF : Gate := Gate.of (m ((d.tc : Thread nD τ).loc main_arg6)) (m ((d.tc : Thread nD τ).loc main_arg11)) (m ((d.tc : Thread nD τ).loc main_arg12))
  (m ((d.tc : Thread nD τ).loc main_arg21)) (m ((d.tc : Thread nD τ).loc main_arg18))
def gateC : Gate := Gate.of (m ((d.tc : Thread nD τ).loc main_arg7)) (m ((d.tc : Thread nD τ).loc main_arg13)) (m ((d.tc : Thread nD τ).loc main_arg14))
  (m ((d.tc : Thread nD τ).loc main_arg22)) (m ((d.tc : Thread nD τ).loc main_arg17))
def gateO : Gate := Gate.of (m ((d.tc : Thread nD τ).loc main_arg8)) (m ((d.tc : Thread nD τ).loc main_arg15)) (m ((d.tc : Thread nD τ).loc main_arg16))
  (m ((d.tc : Thread nD τ).loc main_arg23)) (m ((d.tc : Thread nD τ).loc main_arg19))

/-- The new cell state, the new hidden state and the read-out as terms of whole arrays. -/
def newC : FVec Ideal S10000x64 .f32 :=
  addf (mulf (opened (ax m d) (ah m d) (ac m d) (m ((d.tc : Thread nD τ).loc main_arg6)) (m ((d.tc : Thread nD τ).loc main_arg11)) (m ((d.tc : Thread nD τ).loc main_arg12))
      (m ((d.tc : Thread nD τ).loc main_arg21)) (m ((d.tc : Thread nD τ).loc main_arg18))) (ac m d))
    (mulf (opened (ax m d) (ah m d) (ac m d) (m ((d.tc : Thread nD τ).loc main_arg5)) (m ((d.tc : Thread nD τ).loc main_arg9)) (m ((d.tc : Thread nD τ).loc main_arg10))
      (m ((d.tc : Thread nD τ).loc main_arg20)) (m ((d.tc : Thread nD τ).loc main_arg17)))
      (cand (ax m d) (ah m d) (m ((d.tc : Thread nD τ).loc main_arg7)) (m ((d.tc : Thread nD τ).loc main_arg13)) (m ((d.tc : Thread nD τ).loc main_arg14))
        (m ((d.tc : Thread nD τ).loc main_arg22))))
def newH : FVec Ideal S10000x64 .f32 :=
  mulf (opened (ax m d) (ah m d) (newC m d) (m ((d.tc : Thread nD τ).loc main_arg8)) (m ((d.tc : Thread nD τ).loc main_arg15)) (m ((d.tc : Thread nD τ).loc main_arg16))
    (m ((d.tc : Thread nD τ).loc main_arg23)) (m ((d.tc : Thread nD τ).loc main_arg19))) (Host.tanh (newC m d))

theorem newC_at (i : Fin 10000) (j : Fin 64) :
    newC m d (ix2 i j) = rowC (gateI m d) (gateF m d) (gateC m d) (fun k => ax m d (ix2 i k)) (fun k => ah m d (ix2 i k)) (fun k => ac m d (ix2 i k)) j := by
  unfold newC
  pointwise
  rw [opened_at, opened_at, cand_at (w := m ((d.tc : Thread nD τ).loc main_arg17))]
  rfl

theorem newH_at (i : Fin 10000) (j : Fin 64) :
    newH m d (ix2 i j)
      = rowH (gateI m d) (gateF m d) (gateC m d) (gateO m d) (fun k => ax m d (ix2 i k)) (fun k => ah m d (ix2 i k)) (fun k => ac m d (ix2 i k)) j := by
  unfold newH
  pointwise
  rw [opened_at]
  simp only [newC_at]
  rfl

theorem result_H : res_out1 m d = newH m d := by
  show res_main_v64 m d = _
  unfold res_main_v64
  rfl

theorem result_O (i : Fin 10000) (j : Fin 1) :
    (res_out0 m d : FVec Ideal S10000x1 .f32) (ix2 i j)
      = rowO (gateI m d) (gateF m d) (gateC m d) (gateO m d) (fun k => (m ((d.tc : Thread nD τ).loc main_arg24) : FVec Ideal S64x1 .f32) (ix2 k 0))
        ((m ((d.tc : Thread nD τ).loc main_arg25) : FVec Ideal S1 .f32) (ix1 0)) (fun k => ax m d (ix2 i k)) (fun k => ah m d (ix2 i k)) (fun k => ac m d (ix2 i k)) := by
  have e : (res_out0 m d : FVec Ideal S10000x1 .f32) = addf (Host.dotGeneral (φ₂ := .f32) dot_S10000x64_S64x1_S10000x1_1_0_0_1_n_n none
      (maximumf (newH m d) (broadcastInDim S10000x64 ![] bcast_S_S10000x64 (constant S_ .f32 0x00000000#32))) (m ((d.tc : Thread nD τ).loc main_arg24) : FVec Ideal S64x1 .f32))
      (broadcastInDim S10000x1 ![0, 1] bcast_S1x1_S10000x1_0_1 (broadcastInDim S1x1 ![1] bcast_S1_S1x1_1 (m ((d.tc : Thread nD τ).loc main_arg25)))) := by
    show res_main_v69 m d = _
    unfold res_main_v69
    rfl
  rw [e]
  pointwise
  obtain rfl : j = 0 := Subsingleton.elim _ _
  simp only [newH_at]
  rfl

end Cert.ReferenceIdeal.Cell

end
-- ==== Proof.Agree.lean ====
module

public import proofs.«01_k».proof.Defs
public import proofs.«01_k».proof.Proof.Equation
public import proofs.«01_k».proof.Proof.RefValue

/-! # The reference frame, and the equation of the two programs

The reference declares no counter and writes no argument. At argument arrays that agree, its three results and the kernel's
are the same row formulas at the same gates. -/

@[expose] public section

noncomputable section

namespace Cert.Agree

open Cert.Cell Cert.KernelIdeal.Cell Cert.ReferenceIdeal.Cell
open Idealize.ShloMosaic Idealize.ShloMosaic.TcCoe

attribute [local instance] Cert.KernelIdeal.Gen.facts Cert.ReferenceIdeal.Gen.facts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same argument arrays on device `c`. -/
abbrev Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
  ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
  ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
  ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)

variable {m m'} {c : Dev Cert.KernelIdeal.nD} (hs : Same m m' c)
include hs

/-- The reference's gates are the packed ones. -/
theorem gateI_eq : gateI m' c = packGate (packed m c) 0 0 := by
  obtain ⟨h0, h1, h2, h3, h4, h5, h6, h7, h8, h9, h10, h11, h12, h13, h14, h15, h16, h17, h18, h19, h20, h21, h22, h23, h24, h25⟩ := hs
  rw [gates]; unfold gateI; rw [h5, h9, h10, h20, h17]; rfl
theorem gateF_eq : gateF m' c = packGate (packed m c) 1 1 := by
  obtain ⟨h0, h1, h2, h3, h4, h5, h6, h7, h8, h9, h10, h11, h12, h13, h14, h15, h16, h17, h18, h19, h20, h21, h22, h23, h24, h25⟩ := hs
  rw [gates]; unfold gateF; rw [h6, h11, h12, h21, h18]; rfl
theorem gateC_eq : gateC m' c = packGate (packed m c) 2 0 := by
  obtain ⟨h0, h1, h2, h3, h4, h5, h6, h7, h8, h9, h10, h11, h12, h13, h14, h15, h16, h17, h18, h19, h20, h21, h22, h23, h24, h25⟩ := hs
  rw [gates]; unfold gateC; rw [h7, h13, h14, h22, h17]; rfl
theorem gateO_eq : gateO m' c = packGate (packed m c) 3 2 := by
  obtain ⟨h0, h1, h2, h3, h4, h5, h6, h7, h8, h9, h10, h11, h12, h13, h14, h15, h16, h17, h18, h19, h20, h21, h22, h23, h24, h25⟩ := hs
  rw [gates]; unfold gateO; rw [h8, h15, h16, h23, h19]; rfl

/-- The rows the two programs read are the same. -/
theorem x_eq : ax m' c = Cert.KernelIdeal.Gen.V m c Cert.KernelIdeal.main_arg0 := hs.1.trans (Cert.KernelIdeal.Gen.V_main_arg0 m c).symm
theorem h_eq : ah m' c = Cert.KernelIdeal.Gen.V m c Cert.KernelIdeal.main_arg3 := hs.2.2.2.1.trans (Cert.KernelIdeal.Gen.V_main_arg3 m c).symm
theorem c_eq : ac m' c = Cert.KernelIdeal.Gen.V m c Cert.KernelIdeal.main_arg4 := hs.2.2.2.2.1.trans (Cert.KernelIdeal.Gen.V_main_arg4 m c).symm

theorem new_C : newC m' c = G m c Cert.KernelIdeal.main_v16_2 := by
  rw [G_C]
  funext z
  obtain ⟨i, j, rfl⟩ : ∃ (i : Fin 10000) (j : Fin 64), z = ix2 i j := ⟨z 0, z 1, ValueIdx.eq_ix2 z⟩
  refine (newC_at m' c i j).trans (Eq.trans ?_ (allC_row _ _ _ _ i j).symm)
  rw [gateI_eq hs, gateF_eq hs, gateC_eq hs, x_eq hs, h_eq hs, c_eq hs]
theorem new_H : Cert.ReferenceIdeal.Value.res_out1 m' c = G m c Cert.KernelIdeal.main_v16_1 := by
  rw [G_H, result_H]
  funext z
  obtain ⟨i, j, rfl⟩ : ∃ (i : Fin 10000) (j : Fin 64), z = ix2 i j := ⟨z 0, z 1, ValueIdx.eq_ix2 z⟩
  refine (newH_at m' c i j).trans (Eq.trans ?_ (allH_row _ _ _ _ i j).symm)
  rw [gateI_eq hs, gateF_eq hs, gateC_eq hs, gateO_eq hs, x_eq hs, h_eq hs, c_eq hs]
theorem new_O : Cert.ReferenceIdeal.Value.res_out0 m' c = G m c Cert.KernelIdeal.main_v16_0 := by
  rw [G_O]
  funext z
  obtain ⟨i, j, rfl⟩ : ∃ (i : Fin 10000) (j : Fin 1), z = ix2 i j := ⟨z 0, z 1, ValueIdx.eq_ix2 z⟩
  refine (result_O m' c i j).trans (Eq.trans ?_ (allO_row _ _ _ _ _ i j).symm)
  rw [gateI_eq hs, gateF_eq hs, gateC_eq hs, gateO_eq hs, x_eq hs, h_eq hs, c_eq hs, readout, show scal m c (ix2 0 0) = _ from scal_at m c]
  obtain ⟨h0, h1, h2, h3, h4, h5, h6, h7, h8, h9, h10, h11, h12, h13, h14, h15, h16, h17, h18, h19, h20, h21, h22, h23, h24, h25⟩ := hs
  rw [h24, h25]

omit hs in
/-- Every run of the reference returns with the arguments unchanged and every counter at zero. -/
theorem frame_reference : Cert.quiescent_ReferenceIdeal := by
  intro m ρ _
  exact (θ_run Cert.ReferenceIdeal.defs _ _).mono (fun r h => ⟨fun c => (h c).2.2.2, sem_eq_zero_of_no_sems (by decide) r.2⟩)
    (Cert.ReferenceIdeal.Value.run (F := Ideal) m ρ)

omit hs in
/-- From argument arrays that agree, the two programs end with the same three results. -/
theorem algebraic : Cert.algebraic_KernelIdeal_ReferenceIdeal := by
  intro m g m' g' _ hagree
  refine ⟨fun c => G m c Cert.KernelIdeal.main_v16_0, fun c => G m c Cert.KernelIdeal.main_v16_1, fun c => G m c Cert.KernelIdeal.main_v16_2, ?_, ?_⟩
  · exact (θ_run Cert.KernelIdeal.defs _ _).mono (fun _ h c => ⟨h.1.2 c _ (by decide), h.1.2 c _ (by decide), h.1.2 c _ (by decide), args_kept m h.1 c⟩)
      (run_main m g)
  · exact (θ_run Cert.ReferenceIdeal.defs _ _).mono (fun _ h c => ⟨(h c).1.trans (new_O (hagree c)), (h c).2.1.trans (new_H (hagree c)),
      (h c).2.2.1.trans (new_C (hagree c)), (h c).2.2.2⟩) (Cert.ReferenceIdeal.Value.run (F := Ideal) m' g')

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The three frames, the (empty) list of rewrites, and the equation with the reference. -/
theorem claim : Cert.Claim := ⟨Cert.Kernel.Gen.facts, Cert.KernelIdeal.Gen.facts, Cert.ReferenceIdeal.Gen.facts,
  Cert.Kernel.Cell.frame_claim, fun m g _ => Cert.KernelIdeal.Cell.frame_claim m g, Cert.Agree.frame_reference, trivial, Cert.Agree.algebraic⟩

end Cert.Proof

end
